-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S2x3x32x2x256 Cert.KernelIdeal.S2x3x32x1x256
  ∧ IdealRules.bf16_pair.PackStatement Cert.KernelIdeal.S32x256
  ∧ IdealRules.bf16_pair.Statement Cert.KernelIdeal.S1x1x32x2x256 Cert.KernelIdeal.S1x1x32x1x256
  ∧ IdealRules.bf16_pair.Statement Cert.KernelIdeal.S1x1x1x2x256 Cert.KernelIdeal.S1x1x1x1x256
  ∧ IdealRules.bf16_pair.Statement Cert.KernelIdeal.S32x256 Cert.KernelIdeal.S16x256

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v231) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S10x1x4096 : Shape := ⟨3, ![10, 1, 4096]⟩
abbrev S3x12288x512 : Shape := ⟨3, ![3, 12288, 512]⟩
abbrev S3x12288x32 : Shape := ⟨3, ![3, 12288, 32]⟩
abbrev S_ : Shape := ⟨0, ![]⟩

class Facts : Prop where
  bcast_S_S10x1x4096 : S_.BroadcastsInDim S10x1x4096 (![] : Fin 0 → Fin S10x1x4096.rank)
  reducesTo_S10x1x4096_S_d0_1_2 : S10x1x4096.ReducesTo [0, 1, 2] S_
  h_S_ : 0 < S_.numel
  bcast_S_S3x12288x32 : S_.BroadcastsInDim S3x12288x32 (![] : Fin 0 → Fin S3x12288x32.rank)
  reducesTo_S3x12288x32_S_d0_1_2 : S3x12288x32.ReducesTo [0, 1, 2] S_

variable [Facts]

def fn {F : FTy → Type} [FloatOps F] (main_arg0 : FVec F S10x1x4096 .bf16) (main_arg1 : IVec S3x12288x512 8) (main_arg2 : FVec F S3x12288x32 .bf16) (main_arg3 : IVec S3x12288x512 8) (main_arg4 : FVec F S3x12288x32 .bf16) : IVec S_ 1 :=
  let main_v0 : FVec F S10x1x4096 .bf16 := Host.absf main_arg0
  let main_cst : FVec F S_ .bf16 := constant S_ .bf16 0x7F80#16
  let main_v1 : FVec F S10x1x4096 .bf16 := broadcastInDim S10x1x4096 ![] bcast_S_S10x1x4096 main_cst
  let main_v2 : IVec S10x1x4096 1 := cmpf .olt main_v0 main_v1
  let main_c : IVec S_ 1 := constantI S_ 1 1#1
  let main_v3 : IVec S_ 1 := (fun x v => Host.reduce IntOp.andi x v reducesTo_S10x1x4096_S_d0_1_2 h_S_) main_v2 main_c
  let main_v4 : FVec F S3x12288x32 .bf16 := Host.absf main_arg2
  let main_cst_0 : FVec F S_ .bf16 := constant S_ .bf16 0x7F80#16
  let main_v5 : FVec F S3x12288x32 .bf16 := broadcastInDim S3x12288x32 ![] bcast_S_S3x12288x32 main_cst_0
  let main_v6 : IVec S3x12288x32 1 := cmpf .olt main_v4 main_v5
  let main_c_1 : IVec S_ 1 := constantI S_ 1 1#1
  let main_v7 : IVec S_ 1 := (fun x v => Host.reduce IntOp.andi x v reducesTo_S3x12288x32_S_d0_1_2 h_S_) main_v6 main_c_1
  let main_v8 : IVec S_ 1 := andi main_v3 main_v7
  let main_v9 : FVec F S3x12288x32 .bf16 := Host.absf main_arg4
  let main_cst_2 : FVec F S_ .bf16 := constant S_ .bf16 0x7F80#16
  let main_v10 : FVec F S3x12288x32 .bf16 := broadcastInDim S3x12288x32 ![] bcast_S_S3x12288x32 main_cst_2
  let main_v11 : IVec S3x12288x32 1 := cmpf .olt main_v9 main_v10
  let main_c_3 : IVec S_ 1 := constantI S_ 1 1#1
  let main_v12 : IVec S_ 1 := (fun x v => Host.reduce IntOp.andi x v reducesTo_S3x12288x32_S_d0_1_2 h_S_) main_v11 main_c_3
  let main_v13 : IVec S_ 1 := andi main_v8 main_v12
  main_v13
-- ==== Kernel.lean ====
abbrev S10x1x4096 : Shape := ⟨3, ![10, 1, 4096]⟩
abbrev S3x12288x512 : Shape := ⟨3, ![3, 12288, 512]⟩
abbrev S3x12288x32 : Shape := ⟨3, ![3, 12288, 32]⟩
abbrev S10x16x64x4 : Shape := ⟨4, ![10, 16, 64, 4]⟩
abbrev S10x16x4x64 : Shape := ⟨4, ![10, 16, 4, 64]⟩
abbrev S10x4096 : Shape := ⟨2, ![10, 4096]⟩
abbrev S_ : Shape := ⟨0, ![]⟩
abbrev S16x4096 : Shape := ⟨2, ![16, 4096]⟩
abbrev S10x12288 : Shape := ⟨2, ![10, 12288]⟩
abbrev S3x256x512 : Shape := ⟨3, ![3, 256, 512]⟩
abbrev S3x256x32 : Shape := ⟨3, ![3, 256, 32]⟩
abbrev S10x256 : Shape := ⟨2, ![10, 256]⟩
abbrev S2x3x32x256 : Shape := ⟨4, ![2, 3, 32, 256]⟩
abbrev S2x3x128x256 : Shape := ⟨4, ![2, 3, 128, 256]⟩
abbrev S1x256x32 : Shape := ⟨3, ![1, 256, 32]⟩
abbrev S256x32 : Shape := ⟨2, ![256, 32]⟩
abbrev S32x256 : Shape := ⟨2, ![32, 256]⟩
abbrev S1x1x32x256 : Shape := ⟨4, ![1, 1, 32, 256]⟩
abbrev S1x256x512 : Shape := ⟨3, ![1, 256, 512]⟩
abbrev S256x512 : Shape := ⟨2, ![256, 512]⟩
abbrev S512x256 : Shape := ⟨2, ![512, 256]⟩
abbrev S128x256 : Shape := ⟨2, ![128, 256]⟩
abbrev S1x1x128x256 : Shape := ⟨4, ![1, 1, 128, 256]⟩
abbrev S1x1x8x256 : Shape := ⟨4, ![1, 1, 8, 256]⟩
abbrev S8x256 : Shape := ⟨2, ![8, 256]⟩
abbrev S1x1x1x256 : Shape := ⟨4, ![1, 1, 1, 256]⟩
abbrev S1x256 : Shape := ⟨2, ![1, 256]⟩
abbrev S16x256 : Shape := ⟨2, ![16, 256]⟩
abbrev S64x256 : Shape := ⟨2, ![64, 256]⟩
abbrev S8x8x256 : Shape := ⟨3, ![8, 8, 256]⟩
abbrev S8x1x256 : Shape := ⟨3, ![8, 1, 256]⟩
abbrev S256x256 : Shape := ⟨2, ![256, 256]⟩
abbrev S10x1x12288 : Shape := ⟨3, ![10, 1, 12288]⟩

abbrev nBuf : Space → Nat
  | .hbm => 13
  | .vmem => 13
  | .smem => 0
  | _ => 0

abbrev bufTy : (tb : Table) → Fin (tcTables nBuf tb) → BufTy
  | .hbm, ⟨0, _⟩ => ⟨S10x1x4096, .bf16⟩
  | .hbm, ⟨1, _⟩ => ⟨S3x12288x512, .i8⟩
  | .hbm, ⟨2, _⟩ => ⟨S3x12288x32, .bf16⟩
  | .hbm, ⟨3, _⟩ => ⟨S3x12288x512, .i8⟩
  | .hbm, ⟨4, _⟩ => ⟨S3x12288x32, .bf16⟩
  | .hbm, ⟨5, _⟩ => ⟨S10x16x64x4, .bf16⟩
  | .hbm, ⟨6, _⟩ => ⟨S10x16x4x64, .bf16⟩
  | .hbm, ⟨7, _⟩ => ⟨S10x4096, .bf16⟩
  | .hbm, ⟨8, _⟩ => ⟨S_, .i32⟩
  | .hbm, ⟨9, _⟩ => ⟨S_, .bf16⟩
  | .hbm, ⟨10, _⟩ => ⟨S16x4096, .bf16⟩
  | .hbm, ⟨11, _⟩ => ⟨S10x12288, .bf16⟩
  | .hbm, ⟨12, _⟩ => ⟨S10x1x12288, .bf16⟩
  | .local _ .vmem, ⟨0, _⟩ => ⟨S16x4096, .bf16⟩
  | .local _ .vmem, ⟨1, _⟩ => ⟨S3x256x512, .i8⟩
  | .local _ .vmem, ⟨2, _⟩ => ⟨S3x256x512, .i8⟩
  | .local _ .vmem, ⟨3, _⟩ => ⟨S3x256x32, .bf16⟩
  | .local _ .vmem, ⟨4, _⟩ => ⟨S3x256x32, .bf16⟩
  | .local _ .vmem, ⟨5, _⟩ => ⟨S3x256x512, .i8⟩
  | .local _ .vmem, ⟨6, _⟩ => ⟨S3x256x512, .i8⟩
  | .local _ .vmem, ⟨7, _⟩ => ⟨S3x256x32, .bf16⟩
  | .local _ .vmem, ⟨8, _⟩ => ⟨S3x256x32, .bf16⟩
  | .local _ .vmem, ⟨9, _⟩ => ⟨S10x256, .bf16⟩
  | .local _ .vmem, ⟨10, _⟩ => ⟨S10x256, .bf16⟩
  | .local _ .vmem, ⟨11, _⟩ => ⟨S2x3x32x256, .i32⟩
  | .local _ .vmem, ⟨12, _⟩ => ⟨S2x3x128x256, .i32⟩
  | _, _ => ⟨S10x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [BitOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3x256x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256x32 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S10x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
abbrev S2x3x32x2x256 : Shape := ⟨5, ![2, 3, 32, 2, 256]⟩
abbrev S2x3x32x1x256 : Shape := ⟨5, ![2, 3, 32, 1, 256]⟩
abbrev S1x1x32x2x256 : Shape := ⟨5, ![1, 1, 32, 2, 256]⟩
abbrev S1x1x32x1x256 : Shape := ⟨5, ![1, 1, 32, 1, 256]⟩
abbrev S1x1x1x2x256 : Shape := ⟨5, ![1, 1, 1, 2, 256]⟩
abbrev S1x1x1x1x256 : Shape := ⟨5, ![1, 1, 1, 1, 256]⟩
  | .local _ .vmem, ⟨11, _⟩ => ⟨S2x3x32x2x256, .bf16⟩
variable {F : FTy → Type} [FloatOps F]
-- ==== ReferenceIdeal.lean ====
abbrev S10x1x4096 : Shape := ⟨3, ![10, 1, 4096]⟩
abbrev S3x12288x512 : Shape := ⟨3, ![3, 12288, 512]⟩
abbrev S3x12288x32 : Shape := ⟨3, ![3, 12288, 32]⟩
abbrev S10x1x512x8 : Shape := ⟨4, ![10, 1, 512, 8]⟩
abbrev S3x12288x32x16 : Shape := ⟨4, ![3, 12288, 32, 16]⟩
abbrev S_ : Shape := ⟨0, ![]⟩
abbrev S10x1x512x1 : Shape := ⟨4, ![10, 1, 512, 1]⟩
abbrev S10x1x512 : Shape := ⟨3, ![10, 1, 512]⟩
abbrev S10x1x3x12288 : Shape := ⟨4, ![10, 1, 3, 12288]⟩
abbrev S10x1x12288 : Shape := ⟨3, ![10, 1, 12288]⟩

abbrev nBuf : Space → Nat
  | .hbm => 359
  | .vmem => 0
  | .smem => 0
  | _ => 0

abbrev hbmTy0_0 (i : Nat) : BufTy := match i % 128 with
  | 0 => ⟨S10x1x4096, .bf16⟩
  | 1 => ⟨S3x12288x512, .i8⟩
  | 2 => ⟨S3x12288x32, .bf16⟩
  | 3 => ⟨S3x12288x512, .i8⟩
  | 4 => ⟨S3x12288x32, .bf16⟩
  | 5 => ⟨S10x1x512x8, .bf16⟩
  | 6 => ⟨S3x12288x32x16, .bf16⟩
  | 7 => ⟨S3x12288x512, .bf16⟩
  | 8 => ⟨S3x12288x512, .i32⟩
  | 9 => ⟨S_, .i32⟩
  | 10 => ⟨S3x12288x512, .i32⟩
  | 11 => ⟨S3x12288x512, .i32⟩
  | 12 => ⟨S_, .i32⟩
  | 13 => ⟨S3x12288x512, .i32⟩
  | 14 => ⟨S3x12288x512, .i32⟩
  | 15 => ⟨S_, .i32⟩
  | 16 => ⟨S3x12288x512, .i32⟩
  | 17 => ⟨S3x12288x512, .i1⟩
  | 18 => ⟨S_, .bf16⟩
  | 19 => ⟨S_, .bf16⟩
  | 20 => ⟨S_, .bf16⟩
  | 21 => ⟨S3x12288x512, .bf16⟩
  | 22 => ⟨S3x12288x512, .bf16⟩
  | 23 => ⟨S3x12288x512, .bf16⟩
  | 24 => ⟨S3x12288x512, .bf16⟩
  | 25 => ⟨S10x1x512x1, .bf16⟩
  | 26 => ⟨S10x1x512, .bf16⟩
  | 27 => ⟨S10x1x3x12288, .f32⟩
  | 28 => ⟨S3x12288x512, .i32⟩
  | 29 => ⟨S_, .i32⟩
  | 30 => ⟨S3x12288x512, .i32⟩
  | 31 => ⟨S3x12288x512, .i32⟩
  | 32 => ⟨S_, .i32⟩
  | 33 => ⟨S3x12288x512, .i32⟩
  | 34 => ⟨S3x12288x512, .i32⟩
  | 35 => ⟨S_, .i32⟩
  | 36 => ⟨S3x12288x512, .i32⟩
  | 37 => ⟨S3x12288x512, .i1⟩
  | 38 => ⟨S_, .bf16⟩
  | 39 => ⟨S_, .bf16⟩
  | 40 => ⟨S_, .bf16⟩
  | 41 => ⟨S3x12288x512, .bf16⟩
  | 42 => ⟨S3x12288x512, .bf16⟩
  | 43 => ⟨S3x12288x512, .bf16⟩
  | 44 => ⟨S3x12288x512, .bf16⟩
  | 45 => ⟨S10x1x512x1, .bf16⟩
  | 46 => ⟨S10x1x512, .bf16⟩
  | 47 => ⟨S10x1x3x12288, .f32⟩
  | 48 => ⟨S10x1x3x12288, .f32⟩
  | 49 => ⟨S3x12288x512, .i32⟩
  | 50 => ⟨S_, .i32⟩
  | 51 => ⟨S3x12288x512, .i32⟩
  | 52 => ⟨S3x12288x512, .i32⟩
  | 53 => ⟨S_, .i32⟩
  | 54 => ⟨S3x12288x512, .i32⟩
  | 55 => ⟨S3x12288x512, .i32⟩
  | 56 => ⟨S_, .i32⟩
  | 57 => ⟨S3x12288x512, .i32⟩
  | 58 => ⟨S3x12288x512, .i1⟩
  | 59 => ⟨S_, .bf16⟩
  | 60 => ⟨S_, .bf16⟩
  | 61 => ⟨S_, .bf16⟩
  | 62 => ⟨S3x12288x512, .bf16⟩
  | 63 => ⟨S3x12288x512, .bf16⟩
  | 64 => ⟨S3x12288x512, .bf16⟩
  | 65 => ⟨S3x12288x512, .bf16⟩
  | 66 => ⟨S10x1x512x1, .bf16⟩
  | 67 => ⟨S10x1x512, .bf16⟩
  | 68 => ⟨S10x1x3x12288, .f32⟩
  | 69 => ⟨S10x1x3x12288, .f32⟩
  | 70 => ⟨S3x12288x512, .i32⟩
  | 71 => ⟨S_, .i32⟩
  | 72 => ⟨S3x12288x512, .i32⟩
  | 73 => ⟨S3x12288x512, .i32⟩
  | 74 => ⟨S_, .i32⟩
  | 75 => ⟨S3x12288x512, .i32⟩
  | 76 => ⟨S3x12288x512, .i32⟩
  | 77 => ⟨S_, .i32⟩
  | 78 => ⟨S3x12288x512, .i32⟩
  | 79 => ⟨S3x12288x512, .i1⟩
  | 80 => ⟨S_, .bf16⟩
  | 81 => ⟨S_, .bf16⟩
  | 82 => ⟨S_, .bf16⟩
  | 83 => ⟨S3x12288x512, .bf16⟩
  | 84 => ⟨S3x12288x512, .bf16⟩
  | 85 => ⟨S3x12288x512, .bf16⟩
  | 86 => ⟨S3x12288x512, .bf16⟩
  | 87 => ⟨S10x1x512x1, .bf16⟩
  | 88 => ⟨S10x1x512, .bf16⟩
  | 89 => ⟨S10x1x3x12288, .f32⟩
  | 90 => ⟨S10x1x3x12288, .f32⟩
  | 91 => ⟨S3x12288x512, .i32⟩
  | 92 => ⟨S_, .i32⟩
  | 93 => ⟨S3x12288x512, .i32⟩
  | 94 => ⟨S3x12288x512, .i32⟩
  | 95 => ⟨S_, .i32⟩
  | 96 => ⟨S3x12288x512, .i32⟩
  | 97 => ⟨S3x12288x512, .i32⟩
  | 98 => ⟨S_, .i32⟩
  | 99 => ⟨S3x12288x512, .i32⟩
  | 100 => ⟨S3x12288x512, .i1⟩
  | 101 => ⟨S_, .bf16⟩
  | 102 => ⟨S_, .bf16⟩
  | 103 => ⟨S_, .bf16⟩
  | 104 => ⟨S3x12288x512, .bf16⟩
  | 105 => ⟨S3x12288x512, .bf16⟩
  | 106 => ⟨S3x12288x512, .bf16⟩
  | 107 => ⟨S3x12288x512, .bf16⟩
  | 108 => ⟨S10x1x512x1, .bf16⟩
  | 109 => ⟨S10x1x512, .bf16⟩
  | 110 => ⟨S10x1x3x12288, .f32⟩
  | 111 => ⟨S10x1x3x12288, .f32⟩
  | 112 => ⟨S3x12288x512, .i32⟩
  | 113 => ⟨S_, .i32⟩
  | 114 => ⟨S3x12288x512, .i32⟩
  | 115 => ⟨S3x12288x512, .i32⟩
  | 116 => ⟨S_, .i32⟩
  | 117 => ⟨S3x12288x512, .i32⟩
  | 118 => ⟨S3x12288x512, .i32⟩
  | 119 => ⟨S_, .i32⟩
  | 120 => ⟨S3x12288x512, .i32⟩
  | 121 => ⟨S3x12288x512, .i1⟩
  | 122 => ⟨S_, .bf16⟩
  | 123 => ⟨S_, .bf16⟩
  | 124 => ⟨S_, .bf16⟩
  | 125 => ⟨S3x12288x512, .bf16⟩
  | 126 => ⟨S3x12288x512, .bf16⟩
  | 127 => ⟨S3x12288x512, .bf16⟩
  | _ => ⟨S10x1x4096, .bf16⟩

abbrev hbmTy0_1 (i : Nat) : BufTy := match i % 128 with
  | 0 => ⟨S3x12288x512, .bf16⟩
  | 1 => ⟨S10x1x512x1, .bf16⟩
  | 2 => ⟨S10x1x512, .bf16⟩
  | 3 => ⟨S10x1x3x12288, .f32⟩
  | 4 => ⟨S10x1x3x12288, .f32⟩
  | 5 => ⟨S3x12288x512, .i32⟩
  | 6 => ⟨S_, .i32⟩
  | 7 => ⟨S3x12288x512, .i32⟩
  | 8 => ⟨S3x12288x512, .i32⟩
  | 9 => ⟨S_, .i32⟩
  | 10 => ⟨S3x12288x512, .i32⟩
  | 11 => ⟨S3x12288x512, .i32⟩
  | 12 => ⟨S_, .i32⟩
  | 13 => ⟨S3x12288x512, .i32⟩
  | 14 => ⟨S3x12288x512, .i1⟩
  | 15 => ⟨S_, .bf16⟩
  | 16 => ⟨S_, .bf16⟩
  | 17 => ⟨S_, .bf16⟩
  | 18 => ⟨S3x12288x512, .bf16⟩
  | 19 => ⟨S3x12288x512, .bf16⟩
  | 20 => ⟨S3x12288x512, .bf16⟩
  | 21 => ⟨S3x12288x512, .bf16⟩
  | 22 => ⟨S10x1x512x1, .bf16⟩
  | 23 => ⟨S10x1x512, .bf16⟩
  | 24 => ⟨S10x1x3x12288, .f32⟩
  | 25 => ⟨S10x1x3x12288, .f32⟩
  | 26 => ⟨S3x12288x512, .i32⟩
  | 27 => ⟨S_, .i32⟩
  | 28 => ⟨S3x12288x512, .i32⟩
  | 29 => ⟨S3x12288x512, .i32⟩
  | 30 => ⟨S_, .i32⟩
  | 31 => ⟨S3x12288x512, .i32⟩
  | 32 => ⟨S3x12288x512, .i32⟩
  | 33 => ⟨S_, .i32⟩
  | 34 => ⟨S3x12288x512, .i32⟩
  | 35 => ⟨S3x12288x512, .i1⟩
  | 36 => ⟨S_, .bf16⟩
  | 37 => ⟨S_, .bf16⟩
  | 38 => ⟨S_, .bf16⟩
  | 39 => ⟨S3x12288x512, .bf16⟩
  | 40 => ⟨S3x12288x512, .bf16⟩
  | 41 => ⟨S3x12288x512, .bf16⟩
  | 42 => ⟨S3x12288x512, .bf16⟩
  | 43 => ⟨S10x1x512x1, .bf16⟩
  | 44 => ⟨S10x1x512, .bf16⟩
  | 45 => ⟨S10x1x3x12288, .f32⟩
  | 46 => ⟨S10x1x3x12288, .f32⟩
  | 47 => ⟨S_, .f32⟩
  | 48 => ⟨S10x1x12288, .f32⟩
  | 49 => ⟨S3x12288x32x16, .bf16⟩
  | 50 => ⟨S3x12288x512, .bf16⟩
  | 51 => ⟨S3x12288x512, .i32⟩
  | 52 => ⟨S_, .i32⟩
  | 53 => ⟨S3x12288x512, .i32⟩
  | 54 => ⟨S3x12288x512, .i32⟩
  | 55 => ⟨S_, .i32⟩
  | 56 => ⟨S3x12288x512, .i32⟩
  | 57 => ⟨S3x12288x512, .i32⟩
  | 58 => ⟨S_, .i32⟩
  | 59 => ⟨S3x12288x512, .i32⟩
  | 60 => ⟨S3x12288x512, .i1⟩
  | 61 => ⟨S_, .bf16⟩
  | 62 => ⟨S_, .bf16⟩
  | 63 => ⟨S_, .bf16⟩
  | 64 => ⟨S3x12288x512, .bf16⟩
  | 65 => ⟨S3x12288x512, .bf16⟩
  | 66 => ⟨S3x12288x512, .bf16⟩
  | 67 => ⟨S3x12288x512, .bf16⟩
  | 68 => ⟨S10x1x512x1, .bf16⟩
  | 69 => ⟨S10x1x512, .bf16⟩
  | 70 => ⟨S10x1x3x12288, .f32⟩
  | 71 => ⟨S3x12288x512, .i32⟩
  | 72 => ⟨S_, .i32⟩
  | 73 => ⟨S3x12288x512, .i32⟩
  | 74 => ⟨S3x12288x512, .i32⟩
  | 75 => ⟨S_, .i32⟩
  | 76 => ⟨S3x12288x512, .i32⟩
  | 77 => ⟨S3x12288x512, .i32⟩
  | 78 => ⟨S_, .i32⟩
  | 79 => ⟨S3x12288x512, .i32⟩
  | 80 => ⟨S3x12288x512, .i1⟩
  | 81 => ⟨S_, .bf16⟩
  | 82 => ⟨S_, .bf16⟩
  | 83 => ⟨S_, .bf16⟩
  | 84 => ⟨S3x12288x512, .bf16⟩
  | 85 => ⟨S3x12288x512, .bf16⟩
  | 86 => ⟨S3x12288x512, .bf16⟩
  | 87 => ⟨S3x12288x512, .bf16⟩
  | 88 => ⟨S10x1x512x1, .bf16⟩
  | 89 => ⟨S10x1x512, .bf16⟩
  | 90 => ⟨S10x1x3x12288, .f32⟩
  | 91 => ⟨S10x1x3x12288, .f32⟩
  | 92 => ⟨S3x12288x512, .i32⟩
  | 93 => ⟨S_, .i32⟩
  | 94 => ⟨S3x12288x512, .i32⟩
  | 95 => ⟨S3x12288x512, .i32⟩
  | 96 => ⟨S_, .i32⟩
  | 97 => ⟨S3x12288x512, .i32⟩
  | 98 => ⟨S3x12288x512, .i32⟩
  | 99 => ⟨S_, .i32⟩
  | 100 => ⟨S3x12288x512, .i32⟩
  | 101 => ⟨S3x12288x512, .i1⟩
  | 102 => ⟨S_, .bf16⟩
  | 103 => ⟨S_, .bf16⟩
  | 104 => ⟨S_, .bf16⟩
  | 105 => ⟨S3x12288x512, .bf16⟩
  | 106 => ⟨S3x12288x512, .bf16⟩
  | 107 => ⟨S3x12288x512, .bf16⟩
  | 108 => ⟨S3x12288x512, .bf16⟩
  | 109 => ⟨S10x1x512x1, .bf16⟩
  | 110 => ⟨S10x1x512, .bf16⟩
  | 111 => ⟨S10x1x3x12288, .f32⟩
  | 112 => ⟨S10x1x3x12288, .f32⟩
  | 113 => ⟨S3x12288x512, .i32⟩
  | 114 => ⟨S_, .i32⟩
  | 115 => ⟨S3x12288x512, .i32⟩
  | 116 => ⟨S3x12288x512, .i32⟩
  | 117 => ⟨S_, .i32⟩
  | 118 => ⟨S3x12288x512, .i32⟩
  | 119 => ⟨S3x12288x512, .i32⟩
  | 120 => ⟨S_, .i32⟩
  | 121 => ⟨S3x12288x512, .i32⟩
  | 122 => ⟨S3x12288x512, .i1⟩
  | 123 => ⟨S_, .bf16⟩
  | 124 => ⟨S_, .bf16⟩
  | 125 => ⟨S_, .bf16⟩
  | 126 => ⟨S3x12288x512, .bf16⟩
  | 127 => ⟨S3x12288x512, .bf16⟩
  | _ => ⟨S10x1x4096, .bf16⟩

abbrev hbmTy0_2 (i : Nat) : BufTy := match i % 128 with
  | 0 => ⟨S3x12288x512, .bf16⟩
  | 1 => ⟨S3x12288x512, .bf16⟩
  | 2 => ⟨S10x1x512x1, .bf16⟩
  | 3 => ⟨S10x1x512, .bf16⟩
  | 4 => ⟨S10x1x3x12288, .f32⟩
  | 5 => ⟨S10x1x3x12288, .f32⟩
  | 6 => ⟨S3x12288x512, .i32⟩
  | 7 => ⟨S_, .i32⟩
  | 8 => ⟨S3x12288x512, .i32⟩
  | 9 => ⟨S3x12288x512, .i32⟩
  | 10 => ⟨S_, .i32⟩
  | 11 => ⟨S3x12288x512, .i32⟩
  | 12 => ⟨S3x12288x512, .i32⟩
  | 13 => ⟨S_, .i32⟩
  | 14 => ⟨S3x12288x512, .i32⟩
  | 15 => ⟨S3x12288x512, .i1⟩
  | 16 => ⟨S_, .bf16⟩
  | 17 => ⟨S_, .bf16⟩
  | 18 => ⟨S_, .bf16⟩
  | 19 => ⟨S3x12288x512, .bf16⟩
  | 20 => ⟨S3x12288x512, .bf16⟩
  | 21 => ⟨S3x12288x512, .bf16⟩
  | 22 => ⟨S3x12288x512, .bf16⟩
  | 23 => ⟨S10x1x512x1, .bf16⟩
  | 24 => ⟨S10x1x512, .bf16⟩
  | 25 => ⟨S10x1x3x12288, .f32⟩
  | 26 => ⟨S10x1x3x12288, .f32⟩
  | 27 => ⟨S3x12288x512, .i32⟩
  | 28 => ⟨S_, .i32⟩
  | 29 => ⟨S3x12288x512, .i32⟩
  | 30 => ⟨S3x12288x512, .i32⟩
  | 31 => ⟨S_, .i32⟩
  | 32 => ⟨S3x12288x512, .i32⟩
  | 33 => ⟨S3x12288x512, .i32⟩
  | 34 => ⟨S_, .i32⟩
  | 35 => ⟨S3x12288x512, .i32⟩
  | 36 => ⟨S3x12288x512, .i1⟩
  | 37 => ⟨S_, .bf16⟩
  | 38 => ⟨S_, .bf16⟩
  | 39 => ⟨S_, .bf16⟩
  | 40 => ⟨S3x12288x512, .bf16⟩
  | 41 => ⟨S3x12288x512, .bf16⟩
  | 42 => ⟨S3x12288x512, .bf16⟩
  | 43 => ⟨S3x12288x512, .bf16⟩
  | 44 => ⟨S10x1x512x1, .bf16⟩
  | 45 => ⟨S10x1x512, .bf16⟩
  | 46 => ⟨S10x1x3x12288, .f32⟩
  | 47 => ⟨S10x1x3x12288, .f32⟩
  | 48 => ⟨S3x12288x512, .i32⟩
  | 49 => ⟨S_, .i32⟩
  | 50 => ⟨S3x12288x512, .i32⟩
  | 51 => ⟨S3x12288x512, .i32⟩
  | 52 => ⟨S_, .i32⟩
  | 53 => ⟨S3x12288x512, .i32⟩
  | 54 => ⟨S3x12288x512, .i32⟩
  | 55 => ⟨S_, .i32⟩
  | 56 => ⟨S3x12288x512, .i32⟩
  | 57 => ⟨S3x12288x512, .i1⟩
  | 58 => ⟨S_, .bf16⟩
  | 59 => ⟨S_, .bf16⟩
  | 60 => ⟨S_, .bf16⟩
  | 61 => ⟨S3x12288x512, .bf16⟩
  | 62 => ⟨S3x12288x512, .bf16⟩
  | 63 => ⟨S3x12288x512, .bf16⟩
  | 64 => ⟨S3x12288x512, .bf16⟩
  | 65 => ⟨S10x1x512x1, .bf16⟩
  | 66 => ⟨S10x1x512, .bf16⟩
  | 67 => ⟨S10x1x3x12288, .f32⟩
  | 68 => ⟨S10x1x3x12288, .f32⟩
  | 69 => ⟨S3x12288x512, .i32⟩
  | 70 => ⟨S_, .i32⟩
  | 71 => ⟨S3x12288x512, .i32⟩
  | 72 => ⟨S3x12288x512, .i32⟩
  | 73 => ⟨S_, .i32⟩
  | 74 => ⟨S3x12288x512, .i32⟩
  | 75 => ⟨S3x12288x512, .i32⟩
  | 76 => ⟨S_, .i32⟩
  | 77 => ⟨S3x12288x512, .i32⟩
  | 78 => ⟨S3x12288x512, .i1⟩
  | 79 => ⟨S_, .bf16⟩
  | 80 => ⟨S_, .bf16⟩
  | 81 => ⟨S_, .bf16⟩
  | 82 => ⟨S3x12288x512, .bf16⟩
  | 83 => ⟨S3x12288x512, .bf16⟩
  | 84 => ⟨S3x12288x512, .bf16⟩
  | 85 => ⟨S3x12288x512, .bf16⟩
  | 86 => ⟨S10x1x512x1, .bf16⟩
  | 87 => ⟨S10x1x512, .bf16⟩
  | 88 => ⟨S10x1x3x12288, .f32⟩
  | 89 => ⟨S10x1x3x12288, .f32⟩
  | 90 => ⟨S_, .f32⟩
  | 91 => ⟨S10x1x12288, .f32⟩
  | 92 => ⟨S10x1x12288, .f32⟩
  | 93 => ⟨S10x1x12288, .f32⟩
  | 94 => ⟨S_, .f32⟩
  | 95 => ⟨S10x1x12288, .f32⟩
  | 96 => ⟨S10x1x12288, .f32⟩
  | 97 => ⟨S_, .f32⟩
  | 98 => ⟨S10x1x12288, .f32⟩
  | 99 => ⟨S10x1x12288, .f32⟩
  | 100 => ⟨S10x1x12288, .f32⟩
  | 101 => ⟨S10x1x12288, .f32⟩
  | 102 => ⟨S10x1x12288, .bf16⟩
  | _ => ⟨S10x1x4096, .bf16⟩

abbrev hbmTy (i : Nat) : BufTy := match i / 128 with
  | 0 => hbmTy0_0 i
  | 1 => hbmTy0_1 i
  | 2 => hbmTy0_2 i
  | _ => ⟨S10x1x4096, .bf16⟩

abbrev bufTy : (tb : Table) → Fin (tcTables nBuf tb) → BufTy
  | .hbm, ⟨i, _⟩ => hbmTy i
  | _, _ => ⟨S10x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_cst_7 : Ref sig .tc := ⟨.hbm, 40, rfl⟩
abbrev main_call1_v0 : Ref sig .tc := ⟨.hbm, 41, rfl⟩
abbrev main_call1_v1 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_8 : Ref sig .tc := ⟨.hbm, 50, rfl⟩
abbrev main_v31 : Ref sig .tc := ⟨.hbm, 51, rfl⟩
abbrev main_v32 : Ref sig .tc := ⟨.hbm, 52, rfl⟩
abbrev main_c_9 : Ref sig .tc := ⟨.hbm, 53, rfl⟩
abbrev main_v33 : Ref sig .tc := ⟨.hbm, 54, rfl⟩
abbrev main_v34 : Ref sig .tc := ⟨.hbm, 55, rfl⟩
abbrev main_c_10 : Ref sig .tc := ⟨.hbm, 56, rfl⟩
abbrev main_v35 : Ref sig .tc := ⟨.hbm, 57, rfl⟩
abbrev main_v36 : Ref sig .tc := ⟨.hbm, 58, rfl⟩
abbrev main_cst_11 : Ref sig .tc := ⟨.hbm, 59, rfl⟩
abbrev main_v37 : Ref sig .tc := ⟨.hbm, 60, rfl⟩
abbrev main_cst_12 : Ref sig .tc := ⟨.hbm, 61, rfl⟩
abbrev main_call2_v0 : Ref sig .tc := ⟨.hbm, 62, rfl⟩
abbrev main_call2_v1 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_13 : Ref sig .tc := ⟨.hbm, 71, rfl⟩
abbrev main_v45 : Ref sig .tc := ⟨.hbm, 72, rfl⟩
abbrev main_v46 : Ref sig .tc := ⟨.hbm, 73, rfl⟩
abbrev main_c_14 : Ref sig .tc := ⟨.hbm, 74, rfl⟩
abbrev main_v47 : Ref sig .tc := ⟨.hbm, 75, rfl⟩
abbrev main_v48 : Ref sig .tc := ⟨.hbm, 76, rfl⟩
abbrev main_c_15 : Ref sig .tc := ⟨.hbm, 77, rfl⟩
abbrev main_v49 : Ref sig .tc := ⟨.hbm, 78, rfl⟩
abbrev main_v50 : Ref sig .tc := ⟨.hbm, 79, rfl⟩
abbrev main_cst_16 : Ref sig .tc := ⟨.hbm, 80, rfl⟩
abbrev main_v51 : Ref sig .tc := ⟨.hbm, 81, rfl⟩
abbrev main_cst_17 : Ref sig .tc := ⟨.hbm, 82, rfl⟩
abbrev main_call3_v0 : Ref sig .tc := ⟨.hbm, 83, rfl⟩
abbrev main_call3_v1 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_c_18 : Ref sig .tc := ⟨.hbm, 92, rfl⟩
abbrev main_v59 : Ref sig .tc := ⟨.hbm, 93, rfl⟩
abbrev main_v60 : Ref sig .tc := ⟨.hbm, 94, rfl⟩
abbrev main_c_19 : Ref sig .tc := ⟨.hbm, 95, rfl⟩
abbrev main_v61 : Ref sig .tc := ⟨.hbm, 96, rfl⟩
abbrev main_v62 : Ref sig .tc := ⟨.hbm, 97, rfl⟩
abbrev main_c_20 : Ref sig .tc := ⟨.hbm, 98, rfl⟩
abbrev main_v63 : Ref sig .tc := ⟨.hbm, 99, rfl⟩
abbrev main_v64 : Ref sig .tc := ⟨.hbm, 100, rfl⟩
abbrev main_cst_21 : Ref sig .tc := ⟨.hbm, 101, rfl⟩
abbrev main_v65 : Ref sig .tc := ⟨.hbm, 102, rfl⟩
abbrev main_cst_22 : Ref sig .tc := ⟨.hbm, 103, rfl⟩
abbrev main_call4_v0 : Ref sig .tc := ⟨.hbm, 104, rfl⟩
abbrev main_call4_v1 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_c_23 : Ref sig .tc := ⟨.hbm, 113, rfl⟩
abbrev main_v73 : Ref sig .tc := ⟨.hbm, 114, rfl⟩
abbrev main_v74 : Ref sig .tc := ⟨.hbm, 115, rfl⟩
abbrev main_c_24 : Ref sig .tc := ⟨.hbm, 116, rfl⟩
abbrev main_v75 : Ref sig .tc := ⟨.hbm, 117, rfl⟩
abbrev main_v76 : Ref sig .tc := ⟨.hbm, 118, rfl⟩
abbrev main_c_25 : Ref sig .tc := ⟨.hbm, 119, rfl⟩
abbrev main_v77 : Ref sig .tc := ⟨.hbm, 120, rfl⟩
abbrev main_v78 : Ref sig .tc := ⟨.hbm, 121, rfl⟩
abbrev main_cst_26 : Ref sig .tc := ⟨.hbm, 122, rfl⟩
abbrev main_v79 : Ref sig .tc := ⟨.hbm, 123, rfl⟩
abbrev main_cst_27 : Ref sig .tc := ⟨.hbm, 124, rfl⟩
abbrev main_call5_v0 : Ref sig .tc := ⟨.hbm, 125, rfl⟩
abbrev main_call5_v1 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_c_28 : Ref sig .tc := ⟨.hbm, 134, rfl⟩
abbrev main_v87 : Ref sig .tc := ⟨.hbm, 135, rfl⟩
abbrev main_v88 : Ref sig .tc := ⟨.hbm, 136, rfl⟩
abbrev main_c_29 : Ref sig .tc := ⟨.hbm, 137, rfl⟩
abbrev main_v89 : Ref sig .tc := ⟨.hbm, 138, rfl⟩
abbrev main_v90 : Ref sig .tc := ⟨.hbm, 139, rfl⟩
abbrev main_c_30 : Ref sig .tc := ⟨.hbm, 140, rfl⟩
abbrev main_v91 : Ref sig .tc := ⟨.hbm, 141, rfl⟩
abbrev main_v92 : Ref sig .tc := ⟨.hbm, 142, rfl⟩
abbrev main_cst_31 : Ref sig .tc := ⟨.hbm, 143, rfl⟩
abbrev main_v93 : Ref sig .tc := ⟨.hbm, 144, rfl⟩
abbrev main_cst_32 : Ref sig .tc := ⟨.hbm, 145, rfl⟩
abbrev main_call6_v0 : Ref sig .tc := ⟨.hbm, 146, rfl⟩
abbrev main_call6_v1 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_c_33 : Ref sig .tc := ⟨.hbm, 155, rfl⟩
abbrev main_v101 : Ref sig .tc := ⟨.hbm, 156, rfl⟩
abbrev main_v102 : Ref sig .tc := ⟨.hbm, 157, rfl⟩
abbrev main_c_34 : Ref sig .tc := ⟨.hbm, 158, rfl⟩
abbrev main_v103 : Ref sig .tc := ⟨.hbm, 159, rfl⟩
abbrev main_v104 : Ref sig .tc := ⟨.hbm, 160, rfl⟩
abbrev main_c_35 : Ref sig .tc := ⟨.hbm, 161, rfl⟩
abbrev main_v105 : Ref sig .tc := ⟨.hbm, 162, rfl⟩
abbrev main_v106 : Ref sig .tc := ⟨.hbm, 163, rfl⟩
abbrev main_cst_36 : Ref sig .tc := ⟨.hbm, 164, rfl⟩
abbrev main_v107 : Ref sig .tc := ⟨.hbm, 165, rfl⟩
abbrev main_cst_37 : Ref sig .tc := ⟨.hbm, 166, rfl⟩
abbrev main_call7_v0 : Ref sig .tc := ⟨.hbm, 167, rfl⟩
abbrev main_call7_v1 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_cst_38 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_c_39 : Ref sig .tc := ⟨.hbm, 180, rfl⟩
abbrev main_v118 : Ref sig .tc := ⟨.hbm, 181, rfl⟩
abbrev main_v119 : Ref sig .tc := ⟨.hbm, 182, rfl⟩
abbrev main_c_40 : Ref sig .tc := ⟨.hbm, 183, rfl⟩
abbrev main_v120 : Ref sig .tc := ⟨.hbm, 184, rfl⟩
abbrev main_v121 : Ref sig .tc := ⟨.hbm, 185, rfl⟩
abbrev main_c_41 : Ref sig .tc := ⟨.hbm, 186, rfl⟩
abbrev main_v122 : Ref sig .tc := ⟨.hbm, 187, rfl⟩
abbrev main_v123 : Ref sig .tc := ⟨.hbm, 188, rfl⟩
abbrev main_cst_42 : Ref sig .tc := ⟨.hbm, 189, rfl⟩
abbrev main_v124 : Ref sig .tc := ⟨.hbm, 190, rfl⟩
abbrev main_cst_43 : Ref sig .tc := ⟨.hbm, 191, rfl⟩
abbrev main_call8_v0 : Ref sig .tc := ⟨.hbm, 192, rfl⟩
abbrev main_call8_v1 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_c_44 : Ref sig .tc := ⟨.hbm, 200, rfl⟩
abbrev main_v131 : Ref sig .tc := ⟨.hbm, 201, rfl⟩
abbrev main_v132 : Ref sig .tc := ⟨.hbm, 202, rfl⟩
abbrev main_c_45 : Ref sig .tc := ⟨.hbm, 203, rfl⟩
abbrev main_v133 : Ref sig .tc := ⟨.hbm, 204, rfl⟩
abbrev main_v134 : Ref sig .tc := ⟨.hbm, 205, rfl⟩
abbrev main_c_46 : Ref sig .tc := ⟨.hbm, 206, rfl⟩
abbrev main_v135 : Ref sig .tc := ⟨.hbm, 207, rfl⟩
abbrev main_v136 : Ref sig .tc := ⟨.hbm, 208, rfl⟩
abbrev main_cst_47 : Ref sig .tc := ⟨.hbm, 209, rfl⟩
abbrev main_v137 : Ref sig .tc := ⟨.hbm, 210, rfl⟩
abbrev main_cst_48 : Ref sig .tc := ⟨.hbm, 211, rfl⟩
abbrev main_call9_v0 : Ref sig .tc := ⟨.hbm, 212, rfl⟩
abbrev main_call9_v1 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_c_49 : Ref sig .tc := ⟨.hbm, 221, rfl⟩
abbrev main_v145 : Ref sig .tc := ⟨.hbm, 222, rfl⟩
abbrev main_v146 : Ref sig .tc := ⟨.hbm, 223, rfl⟩
abbrev main_c_50 : Ref sig .tc := ⟨.hbm, 224, rfl⟩
abbrev main_v147 : Ref sig .tc := ⟨.hbm, 225, rfl⟩
abbrev main_v148 : Ref sig .tc := ⟨.hbm, 226, rfl⟩
abbrev main_c_51 : Ref sig .tc := ⟨.hbm, 227, rfl⟩
abbrev main_v149 : Ref sig .tc := ⟨.hbm, 228, rfl⟩
abbrev main_v150 : Ref sig .tc := ⟨.hbm, 229, rfl⟩
abbrev main_cst_52 : Ref sig .tc := ⟨.hbm, 230, rfl⟩
abbrev main_v151 : Ref sig .tc := ⟨.hbm, 231, rfl⟩
abbrev main_cst_53 : Ref sig .tc := ⟨.hbm, 232, rfl⟩
abbrev main_call10_v0 : Ref sig .tc := ⟨.hbm, 233, rfl⟩
abbrev main_call10_v1 : Ref sig .tc := ⟨.hbm, 234, rfl⟩
abbrev main_v152 : Ref sig .tc := ⟨.hbm, 235, rfl⟩
abbrev main_v153 : Ref sig .tc := ⟨.hbm, 236, rfl⟩
abbrev main_v154 : Ref sig .tc := ⟨.hbm, 237, rfl⟩
abbrev main_v155 : Ref sig .tc := ⟨.hbm, 238, rfl⟩
abbrev main_v156 : Ref sig .tc := ⟨.hbm, 239, rfl⟩
abbrev main_v157 : Ref sig .tc := ⟨.hbm, 240, rfl⟩
abbrev main_v158 : Ref sig .tc := ⟨.hbm, 241, rfl⟩
abbrev main_c_54 : Ref sig .tc := ⟨.hbm, 242, rfl⟩
abbrev main_v159 : Ref sig .tc := ⟨.hbm, 243, rfl⟩
abbrev main_v160 : Ref sig .tc := ⟨.hbm, 244, rfl⟩
abbrev main_c_55 : Ref sig .tc := ⟨.hbm, 245, rfl⟩
abbrev main_v161 : Ref sig .tc := ⟨.hbm, 246, rfl⟩
abbrev main_v162 : Ref sig .tc := ⟨.hbm, 247, rfl⟩
abbrev main_c_56 : Ref sig .tc := ⟨.hbm, 248, rfl⟩
abbrev main_v163 : Ref sig .tc := ⟨.hbm, 249, rfl⟩
abbrev main_v164 : Ref sig .tc := ⟨.hbm, 250, rfl⟩
abbrev main_cst_57 : Ref sig .tc := ⟨.hbm, 251, rfl⟩
abbrev main_v165 : Ref sig .tc := ⟨.hbm, 252, rfl⟩
abbrev main_cst_58 : Ref sig .tc := ⟨.hbm, 253, rfl⟩
abbrev main_call11_v0 : Ref sig .tc := ⟨.hbm, 254, rfl⟩
abbrev main_call11_v1 : Ref sig .tc := ⟨.hbm, 255, rfl⟩
abbrev main_v166 : Ref sig .tc := ⟨.hbm, 256, rfl⟩
abbrev main_v167 : Ref sig .tc := ⟨.hbm, 257, rfl⟩
abbrev main_v168 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_v172 : Ref sig .tc := ⟨.hbm, 262, rfl⟩
abbrev main_c_59 : Ref sig .tc := ⟨.hbm, 263, rfl⟩
abbrev main_v173 : Ref sig .tc := ⟨.hbm, 264, rfl⟩
abbrev main_v174 : Ref sig .tc := ⟨.hbm, 265, rfl⟩
abbrev main_c_60 : Ref sig .tc := ⟨.hbm, 266, rfl⟩
abbrev main_v175 : Ref sig .tc := ⟨.hbm, 267, rfl⟩
abbrev main_v176 : Ref sig .tc := ⟨.hbm, 268, rfl⟩
abbrev main_c_61 : Ref sig .tc := ⟨.hbm, 269, rfl⟩
abbrev main_v177 : Ref sig .tc := ⟨.hbm, 270, rfl⟩
abbrev main_v178 : Ref sig .tc := ⟨.hbm, 271, rfl⟩
abbrev main_cst_62 : Ref sig .tc := ⟨.hbm, 272, rfl⟩
abbrev main_v179 : Ref sig .tc := ⟨.hbm, 273, rfl⟩
abbrev main_cst_63 : Ref sig .tc := ⟨.hbm, 274, rfl⟩
abbrev main_call12_v0 : Ref sig .tc := ⟨.hbm, 275, rfl⟩
abbrev main_call12_v1 : Ref sig .tc := ⟨.hbm, 276, rfl⟩
abbrev main_v180 : Ref sig .tc := ⟨.hbm, 277, rfl⟩
abbrev main_v181 : Ref sig .tc := ⟨.hbm, 278, rfl⟩
abbrev main_v182 : Ref sig .tc := ⟨.hbm, 279, rfl⟩
abbrev main_v183 : Ref sig .tc := ⟨.hbm, 280, rfl⟩
abbrev main_v184 : Ref sig .tc := ⟨.hbm, 281, rfl⟩
abbrev main_v185 : Ref sig .tc := ⟨.hbm, 282, rfl⟩
abbrev main_v186 : Ref sig .tc := ⟨.hbm, 283, rfl⟩
abbrev main_c_64 : Ref sig .tc := ⟨.hbm, 284, rfl⟩
abbrev main_v187 : Ref sig .tc := ⟨.hbm, 285, rfl⟩
abbrev main_v188 : Ref sig .tc := ⟨.hbm, 286, rfl⟩
abbrev main_c_65 : Ref sig .tc := ⟨.hbm, 287, rfl⟩
abbrev main_v189 : Ref sig .tc := ⟨.hbm, 288, rfl⟩
abbrev main_v190 : Ref sig .tc := ⟨.hbm, 289, rfl⟩
abbrev main_c_66 : Ref sig .tc := ⟨.hbm, 290, rfl⟩
abbrev main_v191 : Ref sig .tc := ⟨.hbm, 291, rfl⟩
abbrev main_v192 : Ref sig .tc := ⟨.hbm, 292, rfl⟩
abbrev main_cst_67 : Ref sig .tc := ⟨.hbm, 293, rfl⟩
abbrev main_v193 : Ref sig .tc := ⟨.hbm, 294, rfl⟩
abbrev main_cst_68 : Ref sig .tc := ⟨.hbm, 295, rfl⟩
abbrev main_call13_v0 : Ref sig .tc := ⟨.hbm, 296, rfl⟩
abbrev main_call13_v1 : Ref sig .tc := ⟨.hbm, 297, rfl⟩
abbrev main_v194 : Ref sig .tc := ⟨.hbm, 298, rfl⟩
abbrev main_v195 : Ref sig .tc := ⟨.hbm, 299, rfl⟩
abbrev main_v196 : Ref sig .tc := ⟨.hbm, 300, rfl⟩
abbrev main_v197 : Ref sig .tc := ⟨.hbm, 301, rfl⟩
abbrev main_v198 : Ref sig .tc := ⟨.hbm, 302, rfl⟩
abbrev main_v199 : Ref sig .tc := ⟨.hbm, 303, rfl⟩
abbrev main_v200 : Ref sig .tc := ⟨.hbm, 304, rfl⟩
abbrev main_c_69 : Ref sig .tc := ⟨.hbm, 305, rfl⟩
abbrev main_v201 : Ref sig .tc := ⟨.hbm, 306, rfl⟩
abbrev main_v202 : Ref sig .tc := ⟨.hbm, 307, rfl⟩
abbrev main_c_70 : Ref sig .tc := ⟨.hbm, 308, rfl⟩
abbrev main_v203 : Ref sig .tc := ⟨.hbm, 309, rfl⟩
abbrev main_v204 : Ref sig .tc := ⟨.hbm, 310, rfl⟩
abbrev main_c_71 : Ref sig .tc := ⟨.hbm, 311, rfl⟩
abbrev main_v205 : Ref sig .tc := ⟨.hbm, 312, rfl⟩
abbrev main_v206 : Ref sig .tc := ⟨.hbm, 313, rfl⟩
abbrev main_cst_72 : Ref sig .tc := ⟨.hbm, 314, rfl⟩
abbrev main_v207 : Ref sig .tc := ⟨.hbm, 315, rfl⟩
abbrev main_cst_73 : Ref sig .tc := ⟨.hbm, 316, rfl⟩
abbrev main_call14_v0 : Ref sig .tc := ⟨.hbm, 317, rfl⟩
abbrev main_call14_v1 : Ref sig .tc := ⟨.hbm, 318, rfl⟩
abbrev main_v208 : Ref sig .tc := ⟨.hbm, 319, rfl⟩
abbrev main_v209 : Ref sig .tc := ⟨.hbm, 320, rfl⟩
abbrev main_v210 : Ref sig .tc := ⟨.hbm, 321, rfl⟩
abbrev main_v211 : Ref sig .tc := ⟨.hbm, 322, rfl⟩
abbrev main_v212 : Ref sig .tc := ⟨.hbm, 323, rfl⟩
abbrev main_v213 : Ref sig .tc := ⟨.hbm, 324, rfl⟩
abbrev main_v214 : Ref sig .tc := ⟨.hbm, 325, rfl⟩
abbrev main_c_74 : Ref sig .tc := ⟨.hbm, 326, rfl⟩
abbrev main_v215 : Ref sig .tc := ⟨.hbm, 327, rfl⟩
abbrev main_v216 : Ref sig .tc := ⟨.hbm, 328, rfl⟩
abbrev main_c_75 : Ref sig .tc := ⟨.hbm, 329, rfl⟩
abbrev main_v217 : Ref sig .tc := ⟨.hbm, 330, rfl⟩
abbrev main_v218 : Ref sig .tc := ⟨.hbm, 331, rfl⟩
abbrev main_c_76 : Ref sig .tc := ⟨.hbm, 332, rfl⟩
abbrev main_v219 : Ref sig .tc := ⟨.hbm, 333, rfl⟩
abbrev main_v220 : Ref sig .tc := ⟨.hbm, 334, rfl⟩
abbrev main_cst_77 : Ref sig .tc := ⟨.hbm, 335, rfl⟩
abbrev main_v221 : Ref sig .tc := ⟨.hbm, 336, rfl⟩
abbrev main_cst_78 : Ref sig .tc := ⟨.hbm, 337, rfl⟩
abbrev main_call15_v0 : Ref sig .tc := ⟨.hbm, 338, rfl⟩
abbrev main_call15_v1 : Ref sig .tc := ⟨.hbm, 339, rfl⟩
abbrev main_v222 : Ref sig .tc := ⟨.hbm, 340, rfl⟩
abbrev main_v223 : Ref sig .tc := ⟨.hbm, 341, rfl⟩
abbrev main_v224 : Ref sig .tc := ⟨.hbm, 342, rfl⟩
abbrev main_v225 : Ref sig .tc := ⟨.hbm, 343, rfl⟩
abbrev main_v226 : Ref sig .tc := ⟨.hbm, 344, rfl⟩
abbrev main_v227 : Ref sig .tc := ⟨.hbm, 345, rfl⟩
abbrev main_cst_79 : Ref sig .tc := ⟨.hbm, 346, rfl⟩
abbrev main_v228 : Ref sig .tc := ⟨.hbm, 347, rfl⟩
abbrev main_call16_v0 : Ref sig .tc := ⟨.hbm, 348, rfl⟩
abbrev main_call16_v1 : Ref sig .tc := ⟨.hbm, 349, rfl⟩
abbrev main_call16_cst : Ref sig .tc := ⟨.hbm, 350, rfl⟩
abbrev main_call16_v2 : Ref sig .tc := ⟨.hbm, 351, rfl⟩
abbrev main_call16_v3 : Ref sig .tc := ⟨.hbm, 352, rfl⟩
abbrev main_call16_cst_0 : Ref sig .tc := ⟨.hbm, 353, rfl⟩
abbrev main_call16_v4 : Ref sig .tc := ⟨.hbm, 354, rfl⟩
abbrev main_call16_v5 : Ref sig .tc := ⟨.hbm, 355, rfl⟩
abbrev main_v229 : Ref sig .tc := ⟨.hbm, 356, rfl⟩
abbrev main_v230 : Ref sig .tc := ⟨.hbm, 357, rfl⟩
abbrev main_v231 : Ref sig .tc := ⟨.hbm, 358, rfl⟩

abbrev nD : Nat := 1
abbrev τ : Topo := Topo.v7x

variable {F : FTy → Type} [FloatOps F]
-- ==== Proof.Tiles.lean ====
/-
  The order in which the kernel's body takes its ninety-six tiles: plane by plane, and in each plane column block by column
  block, the gate's tile before the other one.
-/
module

public import Idealize.ShloMosaic.Lib.Claim

@[expose] public section

noncomputable section

namespace Cert.Proof.Tiles

/-- A tile: which operand (0 the gate), which plane, which block of 256 columns. -/
structure Tile where
  m : Fin 2
  q : Fin 3
  t : Fin 16

/-- The staging register the tile is pushed to, and the two scale rows it reads. -/
def Tile.reg (i : Tile) : Fin 2 := ⟨i.t.val % 2, Nat.mod_lt _ (by decide)⟩
/-- The first of a tile's two rows of scales. -/
def Tile.row0 (i : Tile) : Fin 32 := ⟨2 * i.t.val, by have := i.t.isLt; omega⟩
/-- The second of a tile's two rows of scales. -/
def Tile.row1 (i : Tile) : Fin 32 := ⟨2 * i.t.val + 1, by have := i.t.isLt; omega⟩

/-- The sixteen column blocks of one plane, each for both operands. -/
def planeTiles (q : Fin 3) : List Tile :=
  [⟨0, q, 0⟩, ⟨1, q, 0⟩, ⟨0, q, 1⟩, ⟨1, q, 1⟩, ⟨0, q, 2⟩, ⟨1, q, 2⟩, ⟨0, q, 3⟩, ⟨1, q, 3⟩,
   ⟨0, q, 4⟩, ⟨1, q, 4⟩, ⟨0, q, 5⟩, ⟨1, q, 5⟩, ⟨0, q, 6⟩, ⟨1, q, 6⟩, ⟨0, q, 7⟩, ⟨1, q, 7⟩,
   ⟨0, q, 8⟩, ⟨1, q, 8⟩, ⟨0, q, 9⟩, ⟨1, q, 9⟩, ⟨0, q, 10⟩, ⟨1, q, 10⟩, ⟨0, q, 11⟩, ⟨1, q, 11⟩,
   ⟨0, q, 12⟩, ⟨1, q, 12⟩, ⟨0, q, 13⟩, ⟨1, q, 13⟩, ⟨0, q, 14⟩, ⟨1, q, 14⟩, ⟨0, q, 15⟩, ⟨1, q, 15⟩]

/-- All tiles in the body's order. -/
def tiles : List Tile := planeTiles 0 ++ (planeTiles 1 ++ planeTiles 2)

end Cert.Proof.Tiles

end
-- ==== Proof.BitsProg.lean ====
/-
  The body of `Kernel` as a short program: the twelve stores of the two scratch buffers, the ninety-six tiles as one
  recursion over the list of tiles, and the two pops.
-/
module

public import proofs.«01_k».proof.Proof.Gen.Kernel.Skeleton
public import proofs.«01_k».proof.Proof.Tiles

@[expose] public section

set_option maxRecDepth 65536

noncomputable section

namespace Cert.Proof.Kernel

open Cert.Kernel Cert.Kernel.Gen Cert.Proof.Tiles
open Idealize.ShloMosaic Idealize.SL.Sem

variable {F : FTy → Type} [BitOps F]

/-! ## The values -/

/-- The scale rows stored for one plane: the transposed scales, each as both halves of a word. -/
def alphaRows (a : Vec F S1x256x32 .bf16) : IVec S1x1x32x256 32 :=
  have a2 : FVec F S256x32 .f32 := extf .f32 (shapeCast S256x32 a shapeCasts_S1x256x32_S256x32 : FVec F S256x32 .bf16) bitsLt_bf16_f32
  have a3 : FVec F S32x256 .f32 := transpose S32x256 [1, 0] a2 transposes_S256x32_p1_0_S32x256
  have w : IVec S32x256 32 := packElementwise a3 a3
  shapeCast S1x1x32x256 w shapeCasts_S32x256_S1x1x32x256

/-- The words stored for one plane: four byte rows of the transposed block a word. -/
def wordRows (b : Vec F S1x256x512 .i8) : IVec S1x1x128x256 32 :=
  have b1 : IVec S256x512 8 := shapeCast S256x512 b shapeCasts_S1x256x512_S256x512
  have b2 : IVec S512x256 8 := transpose S512x256 [1, 0] b1 transposes_S256x512_p1_0_S512x256
  have b3 : IVec S128x256 32 := bitcast S128x256 32 b2 bitcasts_S512x256_w8_S128x256_w32
  shapeCast S1x1x128x256 b3 shapeCasts_S128x256_S1x1x128x256

/-- The signs of bit `3 - z` of every nibble, as nibbles: four for a clear bit, minus four for a set one. -/
def signs (z : BitVec 32) (w : IVec S8x256 32) : IVec S64x256 32 :=
  have v1 : IVec S8x256 32 := ori (andi (shli w (broadcast S8x256 z)) (broadcast S8x256 2290649224#32)) (broadcast S8x256 1145324612#32)
  have sh : IVec S8x8x256 32 := subi (broadcast S8x8x256 28#32) (muli (broadcast S8x8x256 4#32) (iota .tc S8x8x256 32 [1] iota_S8x8x256_d1_w32))
  have v2 : IVec S8x1x256 32 := shapeCast S8x1x256 v1 shapeCasts_S8x256_S8x1x256
  have v3 : IVec S8x8x256 32 := broadcastTo S8x8x256 (shapeCast S8x1x256 v2 shapeCasts_S8x1x256_S8x1x256) broadcasts_S8x1x256_S8x8x256
  have v4 : IVec S8x8x256 32 := shrsi (shli v3 sh) (broadcast S8x8x256 28#32)
  shapeCast S64x256 v4 shapeCasts_S8x8x256_S64x256

/-- The thirty-two scale rows a loaded word row gives. -/
def scale32 (r : Vec F S1x1x1x256 .i32) : FVec F S32x256 .bf16 :=
  have v : IVec S1x256 32 := shapeCast S1x256 r shapeCasts_S1x1x1x256_S1x256
  have w : IVec S16x256 32 := concatenate S16x256 0 [⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩] concatenates_S1x256_S1x256_S1x256_S1x256_S1x256_S1x256_S1x256_S1x256_S1x256_S1x256_S1x256_S1x256_S1x256_S1x256_S1x256_S1x256_S16x256_d0
  bitcastToFloat .bf16 (bitcast S32x256 16 w bitcasts_S16x256_w32_S32x256_w16)

/-- The tile of one step: for each bit of the nibble the signs times the scales. -/
def tileOf (w : Vec F S1x1x8x256 .i32) (r0 r1 : Vec F S1x1x1x256 .i32) : FVec F S256x256 .bf16 :=
  have v : IVec S8x256 32 := shapeCast S8x256 w shapeCasts_S1x1x8x256_S8x256
  have s : FVec F S64x256 .bf16 := concatenate S64x256 0 [⟨S32x256, scale32 r0⟩, ⟨S32x256, scale32 r1⟩] concatenates_S32x256_S32x256_S64x256_d0
  have t0 : FVec F S64x256 .bf16 := mulf (sitofp .bf16 (signs 3#32 v)) s
  have t1 : FVec F S64x256 .bf16 := mulf (sitofp .bf16 (signs 2#32 v)) s
  have t2 : FVec F S64x256 .bf16 := mulf (sitofp .bf16 (signs 1#32 v)) s
  have t3 : FVec F S64x256 .bf16 := mulf (sitofp .bf16 (signs 0#32 v)) s
  concatenate S256x256 0 [⟨S64x256, t0⟩, ⟨S64x256, t1⟩, ⟨S64x256, t2⟩, ⟨S64x256, t3⟩] concatenates_S64x256_S64x256_S64x256_S64x256_S256x256_d0

/-- The left operand of one step. -/
def lhsOf (x : Vec F S16x256 .bf16) : FVec F S16x256 .bf16 := shapeCast S16x256 x shapeCasts_S16x256_S16x256

/-- The block written, from the two accumulators: the gate's activation times the other product. -/
def outOf (g u : FVec F S16x256 .f32) : FVec F S10x256 .bf16 :=
  have cst : F .f32 := Scalar.ofBits .f32 0xBE800000#32
  have g' : FVec F S16x256 .f32 := mulf g (broadcast S16x256 cst)
  have u' : FVec F S16x256 .f32 := mulf u (broadcast S16x256 cst)
  have y : FVec F S16x256 .f32 := mulf (mulf g' (logistic g')) u'
  have y16 : FVec F S16x256 .bf16 := truncf .bf16 y bitsLt_bf16_f32
  extractStridedSlice S10x256 ![0, 0] y16 slices_S16x256_o0_0_S10x256

/-! ## The accesses -/

/-- The eight rows of words of a tile lie in the buffer. -/
theorem inb_words (m : Fin 2) (q : Fin 3) (t : Fin 16) : ∀ a, (![m.val, q.val, 8 * t.val, 0] : Fin 4 → Nat) a + S1x1x8x256.size a ≤ S2x3x128x256.size a := by
  revert m q t; decide +kernel
/-- A row of scales lies in the buffer. -/
theorem inb_row (m : Fin 2) (q : Fin 3) (r : Fin 32) : ∀ a, (![m.val, q.val, r.val, 0] : Fin 4 → Nat) a + S1x1x1x256.size a ≤ S2x3x32x256.size a := by
  revert m q r; decide +kernel
/-- A column block lies in the left operand. -/
theorem inb_lhs (t : Fin 16) : ∀ a, (![0, 256 * t.val] : Fin 2 → Nat) a + S16x256.size a ≤ S16x4096.size a := by
  revert t; decide +kernel
/-- A plane lies in the block of scales. -/
theorem inb_alpha (q : Fin 3) : ∀ a, (![q.val, 0, 0] : Fin 3 → Nat) a + S1x256x32.size a ≤ S3x256x32.size a := by
  revert q; decide +kernel
/-- A plane lies in the block of bytes. -/
theorem inb_bits (q : Fin 3) : ∀ a, (![q.val, 0, 0] : Fin 3 → Nat) a + S1x256x512.size a ≤ S3x256x512.size a := by
  revert q; decide +kernel
/-- A plane of an operand lies in the buffer of scales. -/
theorem inb_scratchA (m : Fin 2) (q : Fin 3) : ∀ a, (![m.val, q.val, 0, 0] : Fin 4 → Nat) a + S1x1x32x256.size a ≤ S2x3x32x256.size a := by
  revert m q; decide +kernel
/-- A plane of an operand lies in the buffer of words. -/
theorem inb_scratchW (m : Fin 2) (q : Fin 3) : ∀ a, (![m.val, q.val, 0, 0] : Fin 4 → Nat) a + S1x1x128x256.size a ≤ S2x3x128x256.size a := by
  revert m q; decide +kernel

abbrev rWords (m : Fin 2) (q : Fin 3) (t : Fin 16) : Rect S2x3x128x256 := Rect.unit (s := S2x3x128x256) ![m.val, q.val, 8 * t.val, 0] S1x1x8x256.size (inb_words m q t)
abbrev rRow (m : Fin 2) (q : Fin 3) (r : Fin 32) : Rect S2x3x32x256 := Rect.unit (s := S2x3x32x256) ![m.val, q.val, r.val, 0] S1x1x1x256.size (inb_row m q r)
abbrev rLhs (t : Fin 16) : Rect S16x4096 := Rect.unit (s := S16x4096) ![0, 256 * t.val] S16x256.size (inb_lhs t)
abbrev rAlpha (q : Fin 3) : Rect S3x256x32 := Rect.unit (s := S3x256x32) ![q.val, 0, 0] S1x256x32.size (inb_alpha q)
abbrev rBits (q : Fin 3) : Rect S3x256x512 := Rect.unit (s := S3x256x512) ![q.val, 0, 0] S1x256x512.size (inb_bits q)
abbrev rScrA (m : Fin 2) (q : Fin 3) : Rect S2x3x32x256 := Rect.unit (s := S2x3x32x256) ![m.val, q.val, 0, 0] S1x1x32x256.size (inb_scratchA m q)
abbrev rScrW (m : Fin 2) (q : Fin 3) : Rect S2x3x128x256 := Rect.unit (s := S2x3x128x256) ![m.val, q.val, 0, 0] S1x1x128x256.size (inb_scratchW m q)
abbrev rOut : Rect S10x256 := Rect.unit (s := S10x256) ![0, 0] S10x256.size inb_S10x256_S10x256_0_0

/-! ## The program -/

section
variable (arg1 : Memref sig .tc .vmem S16x4096 .bf16) (harg1 : arg1.IsWhole) (arg2 : Memref sig .tc .vmem S3x256x512 .i8) (harg2 : arg2.IsWhole) (arg3 : Memref sig .tc .vmem S3x256x32 .bf16) (harg3 : arg3.IsWhole) (arg4 : Memref sig .tc .vmem S3x256x512 .i8) (harg4 : arg4.IsWhole) (arg5 : Memref sig .tc .vmem S3x256x32 .bf16) (harg5 : arg5.IsWhole) (arg6 : Memref sig .tc .vmem S10x256 .bf16) (harg6 : arg6.IsWhole) (arg7 : Memref sig .tc .vmem S2x3x32x256 .i32) (harg7 : arg7.IsWhole) (arg8 : Memref sig .tc .vmem S2x3x128x256 .i32) (harg8 : arg8.IsWhole)

/-- The stores of plane `q` of operand `m`, whose bits and scales are in `argB` and `argA`. -/
def storeStep (m : Fin 2) (q : Fin 3) (argB : Memref sig .tc .vmem S3x256x512 .i8) (argA : Memref sig .tc .vmem S3x256x32 .bf16)
    (k : Prog (TpuEff nD τ sig (Elt F) Λ₀ .tc) PUnit) : Prog (TpuEff nD τ sig (Elt F) Λ₀ .tc) PUnit :=
  .op (.load argA (rAlpha q).toLoadRect (View.loadsAt_vmem h_S1x256x32)) fun a =>
  .op (.load arg7 (rScrA m q).toLoadRect (View.loadsAt_vmem h_S1x1x32x256)) fun _ =>
  .op (.store arg7 (rScrA m q) (alphaRows a) Finset.univ (View.stores_vmem_bits_univ h_S1x1x32x256 rfl) (.inl rfl)) fun _ =>
  .op (.load argB (rBits q).toLoadRect (View.loadsAt_vmem h_S1x256x512)) fun b =>
  .op (.load arg8 (rScrW m q).toLoadRect (View.loadsAt_vmem h_S1x1x128x256)) fun _ =>
  .op (.store arg8 (rScrW m q) (wordRows b) Finset.univ (View.stores_vmem_bits_univ h_S1x1x128x256 rfl) (.inl rfl)) fun _ => k

/-- One tile: its words and scales loaded, the tile staged, the left operand's columns accumulated against it. -/
def tileStep (i : Tile) (s : Mxu F) (k : Mxu F → Prog (TpuEff nD τ sig (Elt F) Λ₀ .tc) PUnit) : Prog (TpuEff nD τ sig (Elt F) Λ₀ .tc) PUnit :=
  .op (.load arg8 (rWords i.m i.q i.t).toLoadRect (View.loadsAt_vmem h_S1x1x8x256)) fun w =>
  .op (.load arg7 (rRow i.m i.q i.row0).toLoadRect (View.loadsAt_vmem h_S1x1x1x256)) fun r0 =>
  .op (.load arg7 (rRow i.m i.q i.row1).toLoadRect (View.loadsAt_vmem h_S1x1x1x256)) fun r1 =>
  .op (.assume (s.PushOk i.m i.reg false)) fun _ =>
  .op (.load arg1 (rLhs i.t).toLoadRect (View.loadsAt_vmem h_S16x256)) fun x =>
  k ((s.pushed i.m i.reg false (tileOf w r0 r1)).accLhs i.m i.reg 0 (lhsOf x) fits_0_16)

/-- The tiles of a list, one after the other. -/
def tileSteps : List Tile → Mxu F → (Mxu F → Prog (TpuEff nD τ sig (Elt F) Λ₀ .tc) PUnit) → Prog (TpuEff nD τ sig (Elt F) Λ₀ .tc) PUnit
  | [], s, k => k s
  | i :: is, s, k => tileStep arg1 arg7 arg8 i s fun s' => tileSteps is s' k

/-- The end: both results popped, and the block stored. -/
def finish (s : Mxu F) : Prog (TpuEff nD τ sig (Elt F) Λ₀ .tc) PUnit :=
  .op (.load arg6 rOut.toLoadRect (View.loadsAt_vmem h_S10x256)) fun _ =>
  .op (.store arg6 rOut (outOf (s.read 0 0 fits_0_16) ((s.pop 0 0 16 fits_0_16).read 1 0 fits_0_16)) Finset.univ (View.stores_vmem h_S10x256 (harg6.storeExact_slice rfl _ packedbf16_S10x256_S10x256_0_0) (fun _ => rfl)) (.inl rfl)) fun _ =>
  .op (.assume ((s.pop 0 0 16 fits_0_16).pop 1 0 16 fits_0_16).Drained) fun _ => .ret ⟨⟩

/-- The body. -/
def bodyProg : Prog (TpuEff nD τ sig (Elt F) Λ₀ .tc) PUnit :=
  storeStep arg7 arg8 0 0 arg2 arg3 <| storeStep arg7 arg8 0 1 arg2 arg3 <| storeStep arg7 arg8 0 2 arg2 arg3 <|
  storeStep arg7 arg8 1 0 arg4 arg5 <| storeStep arg7 arg8 1 1 arg4 arg5 <| storeStep arg7 arg8 1 2 arg4 arg5 <|
  tileSteps arg1 arg7 arg8 tiles Mxu.init (finish arg6 harg6)

end

end Cert.Proof.Kernel

end
-- ==== Proof.BitsProgEq.lean ====
/-
  The printed body of `Kernel` is the short program of `BitsProg`.
-/
module

public import proofs.«01_k».proof.Proof.BitsProg

@[expose] public section

set_option maxRecDepth 65536
set_option maxHeartbeats 0

noncomputable section

namespace Cert.Proof.Kernel

open Cert.Kernel Cert.Kernel.Gen Cert.Proof.Tiles
open Idealize.ShloMosaic Idealize.SL.Sem

variable {F : FTy → Type} [BitOps F]

/-- The printed body is that program. -/
theorem body_eq (i : grid0.Coords) (arg1 : Memref sig .tc .vmem S16x4096 .bf16) (harg1 : arg1.IsWhole) (arg2 : Memref sig .tc .vmem S3x256x512 .i8) (harg2 : arg2.IsWhole) (arg3 : Memref sig .tc .vmem S3x256x32 .bf16) (harg3 : arg3.IsWhole) (arg4 : Memref sig .tc .vmem S3x256x512 .i8) (harg4 : arg4.IsWhole) (arg5 : Memref sig .tc .vmem S3x256x32 .bf16) (harg5 : arg5.IsWhole) (arg6 : Memref sig .tc .vmem S10x256 .bf16) (harg6 : arg6.IsWhole) (arg7 : Memref sig .tc .vmem S2x3x32x256 .i32) (harg7 : arg7.IsWhole) (arg8 : Memref sig .tc .vmem S2x3x128x256 .i32) (harg8 : arg8.IsWhole) :
    cc0_bcq_gated (F := F) i arg1 harg1 arg2 harg2 arg3 harg3 arg4 harg4 arg5 harg5 arg6 harg6 arg7 harg7 arg8 harg8
      = bodyProg arg1 arg2 arg3 arg4 arg5 arg6 harg6 arg7 arg8 := rfl

end Cert.Proof.Kernel

end
-- ==== Proof.Units.lean ====
/-
  One tile on a matrix unit, as a step of the units' state: the tile is pushed to an empty staging register and the left
  operand is accumulated against it into the first sixteen rows. After any number of such steps every staging register
  is empty and no other row is live, so popping those rows of both units leaves the units drained.
-/
module

public import Idealize.ShloMosaic.Lib.Mxu
public import Idealize.ShloMosaic.Lib.Mxu.Lemmas

@[expose] public section

noncomputable section

namespace Cert.Proof.Units

open Idealize.ShloMosaic Idealize.ShloMosaic.Mxu

variable {F : FTy → Type} [FloatOps F]

/-- The sixteen rows of an accumulator at address zero. -/
theorem fits : Mxu.Fits 0 16 := by decide

/-- A tile pushed to a register of unit `q`, and the left operand accumulated against it. -/
def step (s : Mxu F) (q r : Fin 2) {φ : FTy} (T : FVec F (STile 256) φ) (L : FVec F (STile 16) φ) : Mxu F :=
  (s.pushed q r false T).accLhs q r 0 L fits

/-- Every staging register is empty, and only the first sixteen rows can be live. -/
structure Idle (s : Mxu F) : Prop where
  reg : ∀ q r, s.reg q r = none
  live : ∀ q R, 16 ≤ R.val → s.live q R = false

/-- Units as they start are idle. -/
theorem idle_init : Idle (Mxu.init : Mxu F) := ⟨fun _ _ => rfl, fun _ _ _ => rfl⟩

/-- A push to an idle unit. -/
theorem pushed_eq {s : Mxu F} (h : Idle s) (q r : Fin 2) {φ : FTy} (T : FVec F (STile 256) φ) :
    s.pushed q r false T = { s with reg := fun q' r' => if q' = q ∧ r' = r then some ⟨φ, false, T⟩ else s.reg q' r' } := by
  unfold Mxu.pushed; rw [h.reg q r]

/-- An idle unit takes a push. -/
theorem pushOk {s : Mxu F} (h : Idle s) (q r : Fin 2) : s.PushOk q r false := by
  intro t ht; rw [h.reg q r] at ht; cases ht

/-- A step leaves the units idle. -/
theorem idle_step {s : Mxu F} (h : Idle s) (q r : Fin 2) {φ : FTy} (T : FVec F (STile 256) φ) (L : FVec F (STile 16) φ) :
    Idle (step s q r T L) := by
  unfold step; rw [pushed_eq h]
  refine ⟨fun q' r' => ?_, fun q' R hR => ?_⟩
  · show (if q' = q ∧ r' = r then none else (if q' = q ∧ r' = r then some _ else s.reg q' r')) = none
    split
    · rfl
    · exact h.reg q' r'
  · show (if q' = q ∧ 4 * 0 ≤ R.val ∧ R.val < 4 * 0 + 16 then true else s.live q' R) = false
    rw [if_neg (by omega)]
    exact h.live q' R hR

/-- After both pops nothing is left on the units. -/
theorem drained {s : Mxu F} (h : Idle s) : ((s.pop 0 0 16 fits).pop 1 0 16 fits).Drained := by
  refine ⟨fun q r => ?_, fun q R => ?_⟩
  · show (s.reg q r).isNone = true
    rw [h.reg]; rfl
  · show (if q = 1 ∧ 4 * 0 ≤ R.val ∧ R.val < 4 * 0 + 16 then false
      else (if q = 0 ∧ 4 * 0 ≤ R.val ∧ R.val < 4 * 0 + 16 then false else s.live q R)) = false
    by_cases hR : 16 ≤ R.val
    · rw [if_neg (by omega), if_neg (by omega)]; exact h.live q R hR
    · have : q = 0 ∨ q = 1 := by omega
      rcases this with rfl | rfl
      · rw [if_neg (by simp), if_pos (by omega)]
      · rw [if_pos (by omega)]

end Cert.Proof.Units

end
-- ==== Proof.BitsBody.lean ====
/-
  The body of `Kernel` run: from its six operands and its two scratch buffers at any contents, the body ends with the
  inputs as they were, the scratch buffers at some contents, and the output at the block `blockOf` of the inputs.
-/
module

public import proofs.«01_k».proof.Proof.Gen.Kernel.Frame
public import proofs.«01_k».proof.Proof.BitsProgEq
public import proofs.«01_k».proof.Proof.Units

@[expose] public section

set_option maxRecDepth 16384

noncomputable section

namespace Cert.Proof.Kernel

open Cert.Kernel Cert.Kernel.Gen Cert.Proof.Tiles
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F]

local notation "𝕄" => MT nD τ sig Unit (Elt F) ℕ (UR sig nD τ) ℕ

/-! ## The values -/

/-- The scratch holding the scales after the stores, from the two operands' scales: the last write first. -/
def scalePieces (ga ua : Vec F S3x256x32 .bf16) : List (View.Piece (Elt F) S2x3x32x256 .i32) :=
  [⟨rScrA 1 2, alphaRows (View.ld ua (rAlpha 2))⟩, ⟨rScrA 1 1, alphaRows (View.ld ua (rAlpha 1))⟩, ⟨rScrA 1 0, alphaRows (View.ld ua (rAlpha 0))⟩,
   ⟨rScrA 0 2, alphaRows (View.ld ga (rAlpha 2))⟩, ⟨rScrA 0 1, alphaRows (View.ld ga (rAlpha 1))⟩, ⟨rScrA 0 0, alphaRows (View.ld ga (rAlpha 0))⟩]

/-- The scratch holding the bits after the stores. -/
def wordPieces (gb ub : Vec F S3x256x512 .i8) : List (View.Piece (Elt F) S2x3x128x256 .i32) :=
  [⟨rScrW 1 2, wordRows (View.ld ub (rBits 2))⟩, ⟨rScrW 1 1, wordRows (View.ld ub (rBits 1))⟩, ⟨rScrW 1 0, wordRows (View.ld ub (rBits 0))⟩,
   ⟨rScrW 0 2, wordRows (View.ld gb (rBits 2))⟩, ⟨rScrW 0 1, wordRows (View.ld gb (rBits 1))⟩, ⟨rScrW 0 0, wordRows (View.ld gb (rBits 0))⟩]

/-- The stores of the packed scales cover their buffer. -/
theorem scale_cover (ga ua : Vec F S3x256x32 .bf16) : ∀ y, ∃ p ∈ scalePieces ga ua, y ∈ p.1.set :=
  View.cover_of_tiledL _ ![1, 1, 32, 256] (by sl_kernel_rfl)
/-- The stores of the words cover their buffer. -/
theorem word_cover (gb ub : Vec F S3x256x512 .i8) : ∀ y, ∃ p ∈ wordPieces gb ub, y ∈ p.1.set :=
  View.cover_of_tiledL _ ![1, 1, 128, 256] (by sl_kernel_rfl)

/-- One tile on its unit, the scratch buffers holding `al` and `ws` and the left operand `x`. -/
def tileSt (x : Vec F S16x4096 .bf16) (al : Vec F S2x3x32x256 .i32) (ws : Vec F S2x3x128x256 .i32) (s : Mxu F) (i : Tile) : Mxu F :=
  Units.step s i.m i.reg (tileOf (View.ld ws (rWords i.m i.q i.t)) (View.ld al (rRow i.m i.q i.row0)) (View.ld al (rRow i.m i.q i.row1)))
    (lhsOf (View.ld x (rLhs i.t)))

/-- After any number of tiles the units are idle. -/
theorem idle_tiles (x : Vec F S16x4096 .bf16) (al : Vec F S2x3x32x256 .i32) (ws : Vec F S2x3x128x256 .i32) :
    ∀ (l : List Tile) (s : Mxu F), Units.Idle s → Units.Idle (l.foldl (tileSt x al ws) s)
  | [], _, h => h
  | _ :: l, _, h => idle_tiles x al ws l _ (Units.idle_step h _ _ _ _)

/-- The block of a state: the two units' results, popped and combined. -/
def blockSt (s : Mxu F) : FVec F S10x256 .bf16 :=
  outOf (s.read 0 0 fits_0_16) ((s.pop 0 0 16 fits_0_16).read 1 0 fits_0_16)

variable [∀ e, Nonempty (Elt F e)]

/-- The units' state after every tile. -/
def endSt (x : Vec F S16x4096 .bf16) (gb : Vec F S3x256x512 .i8) (ga : Vec F S3x256x32 .bf16) (ub : Vec F S3x256x512 .i8)
    (ua : Vec F S3x256x32 .bf16) : Mxu F :=
  tiles.foldl (tileSt x (View.canon (scalePieces ga ua)) (View.canon (wordPieces gb ub))) Mxu.init

/-- The block the body writes, from the five blocks it reads. -/
def blockOf (x : Vec F S16x4096 .bf16) (gb : Vec F S3x256x512 .i8) (ga : Vec F S3x256x32 .bf16) (ub : Vec F S3x256x512 .i8)
    (ua : Vec F S3x256x32 .bf16) : Vec F S10x256 .bf16 :=
  View.canon [⟨rOut, blockSt (endSt x gb ga ub ua)⟩]

/-- The store of the output covers its block. -/
theorem out_cover (w : FVec F S10x256 .bf16) : ∀ y, ∃ p ∈ ([⟨rOut, w⟩] : List (View.Piece (Elt F) S10x256 .bf16)), y ∈ p.1.set :=
  View.cover_of_tiledL _ ![10, 256] (by sl_kernel_rfl)

/-! ## The stores of one plane -/

/-- The stores of one plane run: one more piece written to each scratch buffer, from the plane's scales and bits. -/
theorem storeStep_wp (c : Dev nD) (E : Set ℕ) (arg7 : Memref sig .tc .vmem S2x3x32x256 .i32) (harg7 : arg7.IsWhole)
    (arg8 : Memref sig .tc .vmem S2x3x128x256 .i32) (argB : Memref sig .tc .vmem S3x256x512 .i8) (argA : Memref sig .tc .vmem S3x256x32 .bf16)
    (m : Fin 2) (q : Fin 3)
    (fB : Buf (Elt F) (argB.view.loc (c : Thread nD τ))) (fA : Buf (Elt F) (argA.view.loc (c : Thread nD τ)))
    (f7 : Buf (Elt F) (arg7.view.loc (c : Thread nD τ))) (f8 : Buf (Elt F) (arg8.view.loc (c : Thread nD τ)))
    (L7 : List (View.Piece (Elt F) S2x3x32x256 .i32)) (L8 : List (View.Piece (Elt F) S2x3x128x256 .i32)) (K : PUnit → sProp 𝕄)
    (k : Prog (TpuEff nD τ sig (Elt F) Λ₀ .tc) PUnit) :
    iprop((argB.view.loc (c : Thread nD τ) ↦[argB.view.set]{fullShare} fB) ∗ (argA.view.loc (c : Thread nD τ) ↦[argA.view.set]{fullShare} fA)
        ∗ (arg7.view.loc (c : Thread nD τ) ↦[arg7.view.set]{fullShare} (arg7.view.writes (Elt F) f7 L7))
        ∗ (arg8.view.loc (c : Thread nD τ) ↦[arg8.view.set]{fullShare} (arg8.view.writes (Elt F) f8 L8))
        ∗ (iprop((argB.view.loc (c : Thread nD τ) ↦[argB.view.set]{fullShare} fB) ∗ (argA.view.loc (c : Thread nD τ) ↦[argA.view.set]{fullShare} fA)
            ∗ (arg7.view.loc (c : Thread nD τ) ↦[arg7.view.set]{fullShare} (arg7.view.writes (Elt F) f7
                (⟨rScrA m q, alphaRows (View.ld (argA.view.read (Elt F) fA) (rAlpha q))⟩ :: L7)))
            ∗ (arg8.view.loc (c : Thread nD τ) ↦[arg8.view.set]{fullShare} (arg8.view.writes (Elt F) f8
                (⟨rScrW m q, wordRows (View.ld (argB.view.read (Elt F) fB) (rBits q))⟩ :: L8))))
            -∗ wp frame (wpE (defs₀ (F := F)) Variants.none c none) E k K))
      ⊢ wp frame (wpE (defs₀ (F := F)) Variants.none c none) E (storeStep arg7 arg8 m q argB argA k) K := by
  unfold storeStep
  iintro ⟨HB, HA, H7, H8, Hk⟩
  iapply (wp_load_rect Variants.none (c : Thread nD τ) none E (m := argA) (r := rAlpha q) (View.set_slice_subset _ _)) $$ HA; iintro HA
  iapply (wp_load_rect Variants.none (c : Thread nD τ) none E (m := arg7) (r := rScrA m q) (View.set_slice_subset _ _)) $$ H7; iintro H7
  iapply (wp_store Variants.none (c : Thread nD τ) none E (m := arg7) (r := rScrA m q) (View.set_slice_subset _ _)) $$ H7; iintro H7
  iapply (wp_load_rect Variants.none (c : Thread nD τ) none E (m := argB) (r := rBits q) (View.set_slice_subset _ _)) $$ HB; iintro HB
  iapply (wp_load_rect Variants.none (c : Thread nD τ) none E (m := arg8) (r := rScrW m q) (View.set_slice_subset _ _)) $$ H8; iintro H8
  iapply (wp_store Variants.none (c : Thread nD τ) none E (m := arg8) (r := rScrW m q) (View.set_slice_subset _ _)) $$ H8; iintro H8
  iapply Hk
  isplitl [HB]; · iexact HB
  isplitl [HA]; · iexact HA
  isplitl [H7]; · iexact H7
  iexact H8

/-! ## The end -/

/-- The end of the body run: the block stored, the units found drained. -/
theorem finish_wp (c : Dev nD) (E : Set ℕ) (arg6 : Memref sig .tc .vmem S10x256 .bf16) (harg6 : arg6.IsWhole)
    (f6 : Buf (Elt F) (arg6.view.loc (c : Thread nD τ))) (s : Mxu F) (hs : Units.Idle s) (K : PUnit → sProp 𝕄) :
    iprop((arg6.view.loc (c : Thread nD τ) ↦[arg6.view.set]{fullShare} f6)
        ∗ (iprop((arg6.view.loc (c : Thread nD τ) ↦[arg6.view.set]{fullShare} (arg6.view.writes (Elt F) f6 [⟨rOut, blockSt s⟩]))) -∗ K ⟨⟩))
      ⊢ wp frame (wpE (defs₀ (F := F)) Variants.none c none) E (finish arg6 harg6 s) K := by
  unfold finish
  iintro ⟨H6, Hk⟩
  iapply (wp_load_rect Variants.none (c : Thread nD τ) none E (m := arg6) (r := rOut) (View.set_slice_subset _ _)) $$ H6; iintro H6
  iapply (wp_store Variants.none (c : Thread nD τ) none E (m := arg6) (r := rOut) (View.set_slice_subset _ _)) $$ H6; iintro H6
  iapply (wp_assume Variants.none (c : Thread nD τ) none E (Units.drained hs))
  sl_step
  iapply Hk
  iexact H6

/-! ## The tiles, one after the other -/

/-- A list of tiles run: the buffers as they were, the units' state folded over the list. -/
theorem tileSteps_wp (c : Dev nD) (E : Set ℕ) (arg1 : Memref sig .tc .vmem S16x4096 .bf16) (arg7 : Memref sig .tc .vmem S2x3x32x256 .i32)
    (arg8 : Memref sig .tc .vmem S2x3x128x256 .i32)
    (f1 : Buf (Elt F) (arg1.view.loc (c : Thread nD τ))) (f7 : Buf (Elt F) (arg7.view.loc (c : Thread nD τ)))
    (f8 : Buf (Elt F) (arg8.view.loc (c : Thread nD τ))) (R : sProp 𝕄) (K : PUnit → sProp 𝕄)
    (k : Mxu F → Prog (TpuEff nD τ sig (Elt F) Λ₀ .tc) PUnit) :
    ∀ (l : List Tile) (s : Mxu F), Units.Idle s →
      (iprop((arg1.view.loc (c : Thread nD τ) ↦[arg1.view.set]{fullShare} f1) ∗ (arg7.view.loc (c : Thread nD τ) ↦[arg7.view.set]{fullShare} f7)
          ∗ (arg8.view.loc (c : Thread nD τ) ↦[arg8.view.set]{fullShare} f8) ∗ R)
        ⊢ wp frame (wpE (defs₀ (F := F)) Variants.none c none) E
            (k (l.foldl (tileSt (arg1.view.read (Elt F) f1) (arg7.view.read (Elt F) f7) (arg8.view.read (Elt F) f8)) s)) K) →
      iprop((arg1.view.loc (c : Thread nD τ) ↦[arg1.view.set]{fullShare} f1) ∗ (arg7.view.loc (c : Thread nD τ) ↦[arg7.view.set]{fullShare} f7)
          ∗ (arg8.view.loc (c : Thread nD τ) ↦[arg8.view.set]{fullShare} f8) ∗ R)
        ⊢ wp frame (wpE (defs₀ (F := F)) Variants.none c none) E (tileSteps arg1 arg7 arg8 l s k) K
  | [], s, _, h => h
  | i :: l, s, hs, h => by
    unfold tileSteps tileStep
    iintro ⟨H1, H7, H8, HR⟩
    iapply (wp_load_rect Variants.none (c : Thread nD τ) none E (m := arg8) (r := rWords i.m i.q i.t) (View.set_slice_subset _ _)) $$ H8; iintro H8
    iapply (wp_load_rect Variants.none (c : Thread nD τ) none E (m := arg7) (r := rRow i.m i.q i.row0) (View.set_slice_subset _ _)) $$ H7; iintro H7
    iapply (wp_load_rect Variants.none (c : Thread nD τ) none E (m := arg7) (r := rRow i.m i.q i.row1) (View.set_slice_subset _ _)) $$ H7; iintro H7
    iapply (wp_assume Variants.none (c : Thread nD τ) none E (Units.pushOk hs i.m i.reg))
    iapply (wp_load_rect Variants.none (c : Thread nD τ) none E (m := arg1) (r := rLhs i.t) (View.set_slice_subset _ _)) $$ H1; iintro H1
    iapply (tileSteps_wp c E arg1 arg7 arg8 f1 f7 f8 R K k l _ (Units.idle_step hs i.m i.reg _ _) h)
    isplitl [H1]; · iexact H1
    isplitl [H7]; · iexact H7
    isplitl [H8]; · iexact H8
    iexact HR

/-! ## The body's triple -/

/-- The body on its operands: the inputs read `x`, `gb`, `ga`, `ub`, `ua`; the output and the scratch buffers at anything. -/
theorem sound_kernel (c : Dev nD) (E : Set ℕ) (i : grid0.Coords) (arg1 : Memref sig .tc .vmem S16x4096 .bf16) (harg1 : arg1.IsWhole) (arg2 : Memref sig .tc .vmem S3x256x512 .i8) (harg2 : arg2.IsWhole) (arg3 : Memref sig .tc .vmem S3x256x32 .bf16) (harg3 : arg3.IsWhole) (arg4 : Memref sig .tc .vmem S3x256x512 .i8) (harg4 : arg4.IsWhole) (arg5 : Memref sig .tc .vmem S3x256x32 .bf16) (harg5 : arg5.IsWhole) (arg6 : Memref sig .tc .vmem S10x256 .bf16) (harg6 : arg6.IsWhole) (arg7 : Memref sig .tc .vmem S2x3x32x256 .i32) (harg7 : arg7.IsWhole) (arg8 : Memref sig .tc .vmem S2x3x128x256 .i32) (harg8 : arg8.IsWhole)
    (x : Vec F S16x4096 .bf16) (gb : Vec F S3x256x512 .i8) (ga : Vec F S3x256x32 .bf16) (ub : Vec F S3x256x512 .i8) (ua : Vec F S3x256x32 .bf16) (K : PUnit → sProp 𝕄) :
    iprop(owns (c : Thread nD τ) arg1 fullShare x ∗ owns (c : Thread nD τ) arg2 fullShare gb ∗ owns (c : Thread nD τ) arg3 fullShare ga
        ∗ owns (c : Thread nD τ) arg4 fullShare ub ∗ owns (c : Thread nD τ) arg5 fullShare ua ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare gb ∗ owns (c : Thread nD τ) arg3 fullShare ga
            ∗ owns (c : Thread nD τ) arg4 fullShare ub ∗ owns (c : Thread nD τ) arg5 fullShare ua
            ∗ owns (c : Thread nD τ) arg6 fullShare (blockOf x gb ga ub ua)
            ∗ (∃ d, owns (c : Thread nD τ) arg7 fullShare d) ∗ (∃ d, owns (c : Thread nD τ) arg8 fullShare d)) -∗ K ⟨⟩))
      ⊢ wp frame (wpE (defs₀ (F := F)) Variants.none c none) E
          (cc0_bcq_gated i arg1 harg1 arg2 harg2 arg3 harg3 arg4 harg4 arg5 harg5 arg6 harg6 arg7 harg7 arg8 harg8) K := by
  rw [body_eq]
  unfold bodyProg owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf1 hf2 hf3 hf4 hf5
  rw [show f7 = arg7.view.writes (Elt F) f7 [] from rfl, show f8 = arg8.view.writes (Elt F) f8 [] from rfl]
  iapply (storeStep_wp c E arg7 harg7 arg8 arg2 arg3 0 0 f2 f3 f7 f8 _ _ K _)
  isplitl [H2]; · iexact H2
  isplitl [H3]; · iexact H3
  isplitl [H7]; · iexact H7
  isplitl [H8]; · iexact H8
  iintro ⟨H2, H3, H7, H8⟩
  iapply (storeStep_wp c E arg7 harg7 arg8 arg2 arg3 0 1 f2 f3 f7 f8 _ _ K _)
  isplitl [H2]; · iexact H2
  isplitl [H3]; · iexact H3
  isplitl [H7]; · iexact H7
  isplitl [H8]; · iexact H8
  iintro ⟨H2, H3, H7, H8⟩
  iapply (storeStep_wp c E arg7 harg7 arg8 arg2 arg3 0 2 f2 f3 f7 f8 _ _ K _)
  isplitl [H2]; · iexact H2
  isplitl [H3]; · iexact H3
  isplitl [H7]; · iexact H7
  isplitl [H8]; · iexact H8
  iintro ⟨H2, H3, H7, H8⟩
  iapply (storeStep_wp c E arg7 harg7 arg8 arg4 arg5 1 0 f4 f5 f7 f8 _ _ K _)
  isplitl [H4]; · iexact H4
  isplitl [H5]; · iexact H5
  isplitl [H7]; · iexact H7
  isplitl [H8]; · iexact H8
  iintro ⟨H4, H5, H7, H8⟩
  iapply (storeStep_wp c E arg7 harg7 arg8 arg4 arg5 1 1 f4 f5 f7 f8 _ _ K _)
  isplitl [H4]; · iexact H4
  isplitl [H5]; · iexact H5
  isplitl [H7]; · iexact H7
  isplitl [H8]; · iexact H8
  iintro ⟨H4, H5, H7, H8⟩
  iapply (storeStep_wp c E arg7 harg7 arg8 arg4 arg5 1 2 f4 f5 f7 f8 _ _ K _)
  isplitl [H4]; · iexact H4
  isplitl [H5]; · iexact H5
  isplitl [H7]; · iexact H7
  isplitl [H8]; · iexact H8
  iintro ⟨H4, H5, H7, H8⟩
  iapply (tileSteps_wp c E arg1 arg7 arg8 f1 _ _
    iprop((arg2.view.loc (c : Thread nD τ) ↦[arg2.view.set]{fullShare} f2) ∗ (arg3.view.loc (c : Thread nD τ) ↦[arg3.view.set]{fullShare} f3)
      ∗ (arg4.view.loc (c : Thread nD τ) ↦[arg4.view.set]{fullShare} f4) ∗ (arg5.view.loc (c : Thread nD τ) ↦[arg5.view.set]{fullShare} f5)
      ∗ (arg6.view.loc (c : Thread nD τ) ↦[arg6.view.set]{fullShare} f6) ∗ (_ -∗ K ⟨⟩)) K (finish arg6 harg6) tiles Mxu.init Units.idle_init ?_)
  rotate_left
  · isplitl [H1]; · iexact H1
    isplitl [H7]; · iexact H7
    isplitl [H8]; · iexact H8
    isplitl [H2]; · iexact H2
    isplitl [H3]; · iexact H3
    isplitl [H4]; · iexact H4
    isplitl [H5]; · iexact H5
    isplitl [H6]; · iexact H6
    iexact Hk
  iintro ⟨H1, H7, H8, H2, H3, H4, H5, H6, Hk⟩
  iapply (finish_wp c E arg6 harg6 f6 _ (idle_tiles _ _ _ tiles Mxu.init Units.idle_init) K)
  isplitl [H6]; · iexact H6
  iintro H6
  iapply Hk
  isplitl [H1]; · iexists f1; isplitr; swap; iexact H1; ipureintro; rfl
  isplitl [H2]; · iexists f2; isplitr; swap; iexact H2; ipureintro; rfl
  isplitl [H3]; · iexists f3; isplitr; swap; iexact H3; ipureintro; rfl
  isplitl [H4]; · iexists f4; isplitr; swap; iexact H4; ipureintro; rfl
  isplitl [H5]; · iexists f5; isplitr; swap; iexact H5; ipureintro; rfl
  isplitl [H6]
  · iexists _; isplitr; swap; iexact H6
    ipureintro
    rw [View.read_writes_eq_canon _ _ _ (out_cover _)]
    unfold blockOf endSt
    rw [← View.read_writes_eq_canon arg7.view f7 _ (scale_cover (arg3.view.read (Elt F) f3) (arg5.view.read (Elt F) f5)),
      ← View.read_writes_eq_canon arg8.view f8 _ (word_cover (arg2.view.read (Elt F) f2) (arg4.view.read (Elt F) f4))]
    rfl
  isplitl [H7]
  · iexists _, _; isplitr; swap; iexact H7; ipureintro; rfl
  iexists _, _; isplitr; swap; iexact H8; ipureintro; rfl

end Cert.Proof.Kernel

end
-- ==== Proof.BitsRun.lean ====
/-
  `Kernel` run: the pipeline's proof data, whose output block at a point is `blockOf` of the blocks the body reads there,
  the body's obligation at every point, the run of the whole program, and the frame.
-/
module

public import proofs.«01_k».proof.Proof.BitsBody

@[expose] public section

set_option maxRecDepth 16384

noncomputable section

namespace Cert.Proof.Kernel

open Cert.Kernel Cert.Kernel.Gen Cert.Proof.Tiles
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The proof data -/

/-- The block written at point `t`, from the blocks of the arrays there. -/
def outBlk (c : Dev nD) (t : Fin cfg0.N) : Vec F S10x256 .bf16 :=
  blockOf (iblk m c 0 t) (iblk m c 1 t) (iblk m c 2 t) (iblk m c 3 t) (iblk m c 4 t)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk m c t
  Φ _ := Pipeline.ΦA spec0 c
  q _ := fullShare
  owed _ := 0

/-- A window's array at the launch is the array the host code left. -/
theorem A_eq (c : Dev nD) (w : Fin cfg0.W) : (dats m 0 c).A w = V m c (Pipeline.arrRef spec0 w) := by
  dsimp only [dats]

/-- What the body leaves in each window: the inputs as they were, the output at its block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outBlk m c t := by dsimp only [dats]

/-- What the body finds in each input window: the block of its array. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The scratch buffers, whole. -/
abbrev scA : Memref sig .tc .vmem S2x3x32x256 .i32 := Memref.whole cc0_scratch0
abbrev scW : Memref sig .tc .vmem S2x3x128x256 .i32 := Memref.whole cc0_scratch1

/-- The invariant: the scratch buffers at some contents, the generator register at some state. -/
theorem Phi_eq (c : Dev nD) :
    (Pipeline.ΦA spec0 c : sProp 𝕄)
      = iprop(iprop((∃ d, owns (c : Thread nD τ) scA fullShare d) ∗ (∃ d, owns (c : Thread nD τ) scW fullShare d)) ∗ (∃ r, prngReg c r)) := by
  unfold Pipeline.ΦA; rw [scopedRest0_eq]; simp only [scA, scW, owns_whole]; try rfl

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body run at a grid point, from its windows and scratch buffers. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi_eq,
    after0_0, after0_1, after0_2, after0_3, after0_4, after0_5]
  unfold outBlk
  iintro ⟨⟨⟨HA, HW⟩, Hg⟩, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [HA]; · iexact HA
  isplitl [HW]; · iexact HW
  iintro ⟨H0, H1, H2, H3, H4, H5, HA, HW⟩
  isplitl [HA HW Hg]
  · isplitl [HA HW]
    · isplitl [HA]; · iexact HA
      iexact HW
    iexact Hg
  isplitl [Ho]; · iexact Ho
  isplitl [H0]; · iexact H0
  isplitl [H1]; · iexact H1
  isplitl [H2]; · iexact H2
  isplitl [H3]; · iexact H3
  isplitl [H4]; · iexact H4
  iexact H5

/-- The printed body is the one the pipeline calls at a grid point. -/
theorem defs₀_row (t : Fin cfg0.N) :
    defs₀ (F := F) .tc cfg0.body (cfg0.bodyArgs t (cfg0.slots t)) = bodyAt0 t := by
  unfold defs₀; rw [Defs.onTc_tc]

/-- The body keeps its obligation at every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the run theorem's implicit arguments are found by unifying its conclusion with this one, which takes unfolding plain
-- definitions in a metavariable's type
set_option backward.isDefEq.respectTransparency.types false in
/-- The run: every array of the pipeline at what the proof data computes, every other buffer as the region and the later
    host lines leave it, and every semaphore counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl) (Q' := _) (hQ' := fun _ h => h)

/-- The whole program run: its arrays at what the pipeline and the host code after it leave. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the argument arrays end unchanged and every counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Proof.Kernel

end
-- ==== Proof.IdealProg.lean ====
/-
  The body of `KernelIdeal` as a short program: the twelve stores of the two scratch buffers, the ninety-six tiles as one
  recursion over the list of tiles, and the two pops.
-/
module

public import proofs.«01_k».proof.Proof.Gen.KernelIdeal.Skeleton
public import proofs.«01_k».proof.Proof.Tiles

@[expose] public section

set_option maxRecDepth 65536

noncomputable section

namespace Cert.Proof.KernelIdeal

open Cert.KernelIdeal Cert.KernelIdeal.Gen Cert.Proof.Tiles
open Idealize.ShloMosaic Idealize.SL.Sem

variable {F : FTy → Type} [FloatOps F]

/-! ## The values -/

/-- The scale rows stored for one plane: the transposed scales, each as both halves of a word. -/
def alphaRows (a : Vec F S1x256x32 .bf16) : Vec F S1x1x32x2x256 .bf16 :=
  have a2 : FVec F S256x32 .f32 := extf .f32 (shapeCast S256x32 a shapeCasts_S1x256x32_S256x32 : FVec F S256x32 .bf16) bitsLt_bf16_f32
  have a3 : FVec F S32x256 .f32 := transpose S32x256 [1, 0] a2 transposes_S256x32_p1_0_S32x256
  have h : FVec F S32x256 .bf16 := truncf .bf16 a3 bitsLt_bf16_f32
  have w : FVec F S1x1x32x256 .bf16 := shapeCast S1x1x32x256 h shapeCasts_S32x256_S1x1x32x256
  interleaveRows S1x1x32x2x256 (shapeCast S1x1x32x1x256 w shapeCasts_S1x1x32x256_S1x1x32x1x256) (shapeCast S1x1x32x1x256 w shapeCasts_S1x1x32x256_S1x1x32x1x256) bitcasts_S1x1x32x2x256_w16_S1x1x32x1x256_w32

/-- The words stored for one plane: four byte rows of the transposed block a word. -/
def wordRows (b : Vec F S1x256x512 .i8) : IVec S1x1x128x256 32 :=
  have b1 : IVec S256x512 8 := shapeCast S256x512 b shapeCasts_S1x256x512_S256x512
  have b2 : IVec S512x256 8 := transpose S512x256 [1, 0] b1 transposes_S256x512_p1_0_S512x256
  have b3 : IVec S128x256 32 := bitcast S128x256 32 b2 bitcasts_S512x256_w8_S128x256_w32
  shapeCast S1x1x128x256 b3 shapeCasts_S128x256_S1x1x128x256

/-- The signs of bit `3 - z` of every nibble, as nibbles: four for a clear bit, minus four for a set one. -/
def signs (z : BitVec 32) (w : IVec S8x256 32) : IVec S64x256 32 :=
  have v1 : IVec S8x256 32 := ori (andi (shli w (broadcast S8x256 z)) (broadcast S8x256 2290649224#32)) (broadcast S8x256 1145324612#32)
  have sh : IVec S8x8x256 32 := subi (broadcast S8x8x256 28#32) (muli (broadcast S8x8x256 4#32) (iota .tc S8x8x256 32 [1] iota_S8x8x256_d1_w32))
  have v2 : IVec S8x1x256 32 := shapeCast S8x1x256 v1 shapeCasts_S8x256_S8x1x256
  have v3 : IVec S8x8x256 32 := broadcastTo S8x8x256 (shapeCast S8x1x256 v2 shapeCasts_S8x1x256_S8x1x256) broadcasts_S8x1x256_S8x8x256
  have v4 : IVec S8x8x256 32 := shrsi (shli v3 sh) (broadcast S8x8x256 28#32)
  shapeCast S64x256 v4 shapeCasts_S8x8x256_S64x256

/-- One half of a loaded word row, repeated sixteen times. -/
def halfRows (b : Fin 2) (r : Vec F S1x1x1x2x256 .bf16) : FVec F S16x256 .bf16 :=
  have v0 : FVec F S1x1x1x256 .bf16 := shapeCast S1x1x1x256 (rowsOfParity b S1x1x1x1x256 r bitcasts_S1x1x1x2x256_w16_S1x1x1x1x256_w32) shapeCasts_S1x1x1x1x256_S1x1x1x256
  have v : FVec F S1x256 .bf16 := shapeCast S1x256 v0 shapeCasts_S1x1x1x256_S1x256
  concatenate S16x256 0 [⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩, ⟨S1x256, v⟩] concatenates_S1x256_S1x256_S1x256_S1x256_S1x256_S1x256_S1x256_S1x256_S1x256_S1x256_S1x256_S1x256_S1x256_S1x256_S1x256_S1x256_S16x256_d0

/-- The thirty-two scale rows a loaded word row gives. -/
def scale32 (r : Vec F S1x1x1x2x256 .bf16) : FVec F S32x256 .bf16 :=
  interleaveRows S32x256 (halfRows 0 r) (halfRows 1 r) bitcasts_S32x256_w16_S16x256_w32

/-- The tile of one step: for each bit of the nibble the signs times the scales. -/
def tileOf (w : Vec F S1x1x8x256 .i32) (r0 r1 : Vec F S1x1x1x2x256 .bf16) : FVec F S256x256 .bf16 :=
  have v : IVec S8x256 32 := shapeCast S8x256 w shapeCasts_S1x1x8x256_S8x256
  have s : FVec F S64x256 .bf16 := concatenate S64x256 0 [⟨S32x256, scale32 r0⟩, ⟨S32x256, scale32 r1⟩] concatenates_S32x256_S32x256_S64x256_d0
  have t0 : FVec F S64x256 .bf16 := mulf (sitofp .bf16 (signs 3#32 v)) s
  have t1 : FVec F S64x256 .bf16 := mulf (sitofp .bf16 (signs 2#32 v)) s
  have t2 : FVec F S64x256 .bf16 := mulf (sitofp .bf16 (signs 1#32 v)) s
  have t3 : FVec F S64x256 .bf16 := mulf (sitofp .bf16 (signs 0#32 v)) s
  concatenate S256x256 0 [⟨S64x256, t0⟩, ⟨S64x256, t1⟩, ⟨S64x256, t2⟩, ⟨S64x256, t3⟩] concatenates_S64x256_S64x256_S64x256_S64x256_S256x256_d0

/-- The left operand of one step. -/
def lhsOf (x : Vec F S16x256 .bf16) : FVec F S16x256 .bf16 := shapeCast S16x256 x shapeCasts_S16x256_S16x256

/-- The block written, from the two accumulators: the gate's activation times the other product. -/
def outOf (g u : FVec F S16x256 .f32) : FVec F S10x256 .bf16 :=
  have cst : F .f32 := Scalar.ofBits .f32 0xBE800000#32
  have g' : FVec F S16x256 .f32 := mulf g (broadcast S16x256 cst)
  have u' : FVec F S16x256 .f32 := mulf u (broadcast S16x256 cst)
  have y : FVec F S16x256 .f32 := mulf (mulf g' (logistic g')) u'
  have y16 : FVec F S16x256 .bf16 := truncf .bf16 y bitsLt_bf16_f32
  extractStridedSlice S10x256 ![0, 0] y16 slices_S16x256_o0_0_S10x256

/-! ## The accesses -/

/-- The eight rows of words of a tile lie in the buffer. -/
theorem inb_words (m : Fin 2) (q : Fin 3) (t : Fin 16) : ∀ a, (![m.val, q.val, 8 * t.val, 0] : Fin 4 → Nat) a + S1x1x8x256.size a ≤ S2x3x128x256.size a := by
  revert m q t; decide +kernel
/-- A row of scales lies in the buffer. -/
theorem inb_row (m : Fin 2) (q : Fin 3) (r : Fin 32) : ∀ a, (![m.val, q.val, r.val, 0, 0] : Fin 5 → Nat) a + S1x1x1x2x256.size a ≤ S2x3x32x2x256.size a := by
  revert m q r; decide +kernel
/-- A column block lies in the left operand. -/
theorem inb_lhs (t : Fin 16) : ∀ a, (![0, 256 * t.val] : Fin 2 → Nat) a + S16x256.size a ≤ S16x4096.size a := by
  revert t; decide +kernel
/-- A plane lies in the block of scales. -/
theorem inb_alpha (q : Fin 3) : ∀ a, (![q.val, 0, 0] : Fin 3 → Nat) a + S1x256x32.size a ≤ S3x256x32.size a := by
  revert q; decide +kernel
/-- A plane lies in the block of bytes. -/
theorem inb_bits (q : Fin 3) : ∀ a, (![q.val, 0, 0] : Fin 3 → Nat) a + S1x256x512.size a ≤ S3x256x512.size a := by
  revert q; decide +kernel
/-- A plane of an operand lies in the buffer of scales. -/
theorem inb_scratchA (m : Fin 2) (q : Fin 3) : ∀ a, (![m.val, q.val, 0, 0, 0] : Fin 5 → Nat) a + S1x1x32x2x256.size a ≤ S2x3x32x2x256.size a := by
  revert m q; decide +kernel
/-- A plane of an operand lies in the buffer of words. -/
theorem inb_scratchW (m : Fin 2) (q : Fin 3) : ∀ a, (![m.val, q.val, 0, 0] : Fin 4 → Nat) a + S1x1x128x256.size a ≤ S2x3x128x256.size a := by
  revert m q; decide +kernel

abbrev rWords (m : Fin 2) (q : Fin 3) (t : Fin 16) : Rect S2x3x128x256 := Rect.unit (s := S2x3x128x256) ![m.val, q.val, 8 * t.val, 0] S1x1x8x256.size (inb_words m q t)
abbrev rRow (m : Fin 2) (q : Fin 3) (r : Fin 32) : Rect S2x3x32x2x256 := Rect.unit (s := S2x3x32x2x256) ![m.val, q.val, r.val, 0, 0] S1x1x1x2x256.size (inb_row m q r)
abbrev rLhs (t : Fin 16) : Rect S16x4096 := Rect.unit (s := S16x4096) ![0, 256 * t.val] S16x256.size (inb_lhs t)
abbrev rAlpha (q : Fin 3) : Rect S3x256x32 := Rect.unit (s := S3x256x32) ![q.val, 0, 0] S1x256x32.size (inb_alpha q)
abbrev rBits (q : Fin 3) : Rect S3x256x512 := Rect.unit (s := S3x256x512) ![q.val, 0, 0] S1x256x512.size (inb_bits q)
abbrev rScrA (m : Fin 2) (q : Fin 3) : Rect S2x3x32x2x256 := Rect.unit (s := S2x3x32x2x256) ![m.val, q.val, 0, 0, 0] S1x1x32x2x256.size (inb_scratchA m q)
abbrev rScrW (m : Fin 2) (q : Fin 3) : Rect S2x3x128x256 := Rect.unit (s := S2x3x128x256) ![m.val, q.val, 0, 0] S1x1x128x256.size (inb_scratchW m q)
abbrev rOut : Rect S10x256 := Rect.unit (s := S10x256) ![0, 0] S10x256.size inb_S10x256_S10x256_0_0

/-! ## The program -/

section
variable (arg1 : Memref sig .tc .vmem S16x4096 .bf16) (harg1 : arg1.IsWhole) (arg2 : Memref sig .tc .vmem S3x256x512 .i8) (harg2 : arg2.IsWhole) (arg3 : Memref sig .tc .vmem S3x256x32 .bf16) (harg3 : arg3.IsWhole) (arg4 : Memref sig .tc .vmem S3x256x512 .i8) (harg4 : arg4.IsWhole) (arg5 : Memref sig .tc .vmem S3x256x32 .bf16) (harg5 : arg5.IsWhole) (arg6 : Memref sig .tc .vmem S10x256 .bf16) (harg6 : arg6.IsWhole) (arg7 : Memref sig .tc .vmem S2x3x32x2x256 .bf16) (harg7 : arg7.IsWhole) (arg8 : Memref sig .tc .vmem S2x3x128x256 .i32) (harg8 : arg8.IsWhole)

/-- The stores of plane `q` of operand `m`, whose bits and scales are in `argB` and `argA`. -/
def storeStep (m : Fin 2) (q : Fin 3) (argB : Memref sig .tc .vmem S3x256x512 .i8) (argA : Memref sig .tc .vmem S3x256x32 .bf16)
    (k : Prog (TpuEff nD τ sig (Elt F) Λ₀ .tc) PUnit) : Prog (TpuEff nD τ sig (Elt F) Λ₀ .tc) PUnit :=
  .op (.load argA (rAlpha q).toLoadRect (View.loadsAt_vmem h_S1x256x32)) fun a =>
  .op (.load arg7 (rScrA m q).toLoadRect (View.loadsAt_vmem h_S1x1x32x2x256)) fun _ =>
  .op (.store arg7 (rScrA m q) (alphaRows a) Finset.univ (View.stores_vmem h_S1x1x32x2x256 ((harg7.pairWhole rank2_S2x3x32x2x256).storeExact_slice rfl _ (Rect.wholeRows_unit rank2_S2x3x32x2x256 rfl rfl) pairs_S2x3x32x2x256_bf16) (fun _ => rfl)) (.inl rfl)) fun _ =>
  .op (.load argB (rBits q).toLoadRect (View.loadsAt_vmem h_S1x256x512)) fun b =>
  .op (.load arg8 (rScrW m q).toLoadRect (View.loadsAt_vmem h_S1x1x128x256)) fun _ =>
  .op (.store arg8 (rScrW m q) (wordRows b) Finset.univ (View.stores_vmem_bits_univ h_S1x1x128x256 rfl) (.inl rfl)) fun _ => k

/-- One tile: its words and scales loaded, the tile staged, the left operand's columns accumulated against it. -/
def tileStep (i : Tile) (s : Mxu F) (k : Mxu F → Prog (TpuEff nD τ sig (Elt F) Λ₀ .tc) PUnit) : Prog (TpuEff nD τ sig (Elt F) Λ₀ .tc) PUnit :=
  .op (.load arg8 (rWords i.m i.q i.t).toLoadRect (View.loadsAt_vmem h_S1x1x8x256)) fun w =>
  .op (.load arg7 (rRow i.m i.q i.row0).toLoadRect (View.loadsAt_vmem h_S1x1x1x2x256)) fun r0 =>
  .op (.load arg7 (rRow i.m i.q i.row1).toLoadRect (View.loadsAt_vmem h_S1x1x1x2x256)) fun r1 =>
  .op (.assume (s.PushOk i.m i.reg false)) fun _ =>
  .op (.load arg1 (rLhs i.t).toLoadRect (View.loadsAt_vmem h_S16x256)) fun x =>
  k ((s.pushed i.m i.reg false (tileOf w r0 r1)).accLhs i.m i.reg 0 (lhsOf x) fits_0_16)

/-- The tiles of a list, one after the other. -/
def tileSteps : List Tile → Mxu F → (Mxu F → Prog (TpuEff nD τ sig (Elt F) Λ₀ .tc) PUnit) → Prog (TpuEff nD τ sig (Elt F) Λ₀ .tc) PUnit
  | [], s, k => k s
  | i :: is, s, k => tileStep arg1 arg7 arg8 i s fun s' => tileSteps is s' k

/-- The end: both results popped, and the block stored. -/
def finish (s : Mxu F) : Prog (TpuEff nD τ sig (Elt F) Λ₀ .tc) PUnit :=
  .op (.load arg6 rOut.toLoadRect (View.loadsAt_vmem h_S10x256)) fun _ =>
  .op (.store arg6 rOut (outOf (s.read 0 0 fits_0_16) ((s.pop 0 0 16 fits_0_16).read 1 0 fits_0_16)) Finset.univ (View.stores_vmem h_S10x256 (harg6.storeExact_slice rfl _ packedbf16_S10x256_S10x256_0_0) (fun _ => rfl)) (.inl rfl)) fun _ =>
  .op (.assume ((s.pop 0 0 16 fits_0_16).pop 1 0 16 fits_0_16).Drained) fun _ => .ret ⟨⟩

/-- The body. -/
def bodyProg : Prog (TpuEff nD τ sig (Elt F) Λ₀ .tc) PUnit :=
  storeStep arg7 harg7 arg8 0 0 arg2 arg3 <| storeStep arg7 harg7 arg8 0 1 arg2 arg3 <| storeStep arg7 harg7 arg8 0 2 arg2 arg3 <|
  storeStep arg7 harg7 arg8 1 0 arg4 arg5 <| storeStep arg7 harg7 arg8 1 1 arg4 arg5 <| storeStep arg7 harg7 arg8 1 2 arg4 arg5 <|
  tileSteps arg1 arg7 arg8 tiles Mxu.init (finish arg6 harg6)

end

end Cert.Proof.KernelIdeal

end
-- ==== Proof.IdealProgEq.lean ====
/-
  The printed body of `KernelIdeal` is the short program of `IdealProg`.
-/
module

public import proofs.«01_k».proof.Proof.IdealProg

@[expose] public section

set_option maxRecDepth 65536
set_option maxHeartbeats 0

noncomputable section

namespace Cert.Proof.KernelIdeal

open Cert.KernelIdeal Cert.KernelIdeal.Gen Cert.Proof.Tiles
open Idealize.ShloMosaic Idealize.SL.Sem

variable {F : FTy → Type} [FloatOps F]

/-- The printed body is that program. -/
theorem body_eq (i : grid0.Coords) (arg1 : Memref sig .tc .vmem S16x4096 .bf16) (harg1 : arg1.IsWhole) (arg2 : Memref sig .tc .vmem S3x256x512 .i8) (harg2 : arg2.IsWhole) (arg3 : Memref sig .tc .vmem S3x256x32 .bf16) (harg3 : arg3.IsWhole) (arg4 : Memref sig .tc .vmem S3x256x512 .i8) (harg4 : arg4.IsWhole) (arg5 : Memref sig .tc .vmem S3x256x32 .bf16) (harg5 : arg5.IsWhole) (arg6 : Memref sig .tc .vmem S10x256 .bf16) (harg6 : arg6.IsWhole) (arg7 : Memref sig .tc .vmem S2x3x32x2x256 .bf16) (harg7 : arg7.IsWhole) (arg8 : Memref sig .tc .vmem S2x3x128x256 .i32) (harg8 : arg8.IsWhole) :
    cc0_bcq_gated (F := F) i arg1 harg1 arg2 harg2 arg3 harg3 arg4 harg4 arg5 harg5 arg6 harg6 arg7 harg7 arg8 harg8
      = bodyProg arg1 arg2 arg3 arg4 arg5 arg6 harg6 arg7 harg7 arg8 := rfl

end Cert.Proof.KernelIdeal

end
-- ==== Proof.IdealBody.lean ====
/-
  The body of `KernelIdeal` run: from its six operands and its two scratch buffers at any contents, the body ends with the
  inputs as they were, the scratch buffers at some contents, and the output at the block `blockOf` of the inputs.
-/
module

public import proofs.«01_k».proof.Proof.Gen.KernelIdeal.Frame
public import proofs.«01_k».proof.Proof.IdealProgEq
public import proofs.«01_k».proof.Proof.Units

@[expose] public section

set_option maxRecDepth 16384

noncomputable section

namespace Cert.Proof.KernelIdeal

open Cert.KernelIdeal Cert.KernelIdeal.Gen Cert.Proof.Tiles
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## The values -/

/-- The scratch holding the scales after the stores, from the two operands' scales: the last write first. -/
def scalePieces (ga ua : Vec F S3x256x32 .bf16) : List (View.Piece (Elt F) S2x3x32x2x256 .bf16) :=
  [⟨rScrA 1 2, alphaRows (View.ld ua (rAlpha 2))⟩, ⟨rScrA 1 1, alphaRows (View.ld ua (rAlpha 1))⟩, ⟨rScrA 1 0, alphaRows (View.ld ua (rAlpha 0))⟩,
   ⟨rScrA 0 2, alphaRows (View.ld ga (rAlpha 2))⟩, ⟨rScrA 0 1, alphaRows (View.ld ga (rAlpha 1))⟩, ⟨rScrA 0 0, alphaRows (View.ld ga (rAlpha 0))⟩]

/-- The scratch holding the bits after the stores. -/
def wordPieces (gb ub : Vec F S3x256x512 .i8) : List (View.Piece (Elt F) S2x3x128x256 .i32) :=
  [⟨rScrW 1 2, wordRows (View.ld ub (rBits 2))⟩, ⟨rScrW 1 1, wordRows (View.ld ub (rBits 1))⟩, ⟨rScrW 1 0, wordRows (View.ld ub (rBits 0))⟩,
   ⟨rScrW 0 2, wordRows (View.ld gb (rBits 2))⟩, ⟨rScrW 0 1, wordRows (View.ld gb (rBits 1))⟩, ⟨rScrW 0 0, wordRows (View.ld gb (rBits 0))⟩]

/-- The stores of the packed scales cover their buffer. -/
theorem scale_cover (ga ua : Vec F S3x256x32 .bf16) : ∀ y, ∃ p ∈ scalePieces ga ua, y ∈ p.1.set :=
  View.cover_of_tiledL _ ![1, 1, 32, 2, 256] (by sl_kernel_rfl)
/-- The stores of the words cover their buffer. -/
theorem word_cover (gb ub : Vec F S3x256x512 .i8) : ∀ y, ∃ p ∈ wordPieces gb ub, y ∈ p.1.set :=
  View.cover_of_tiledL _ ![1, 1, 128, 256] (by sl_kernel_rfl)

/-- One tile on its unit, the scratch buffers holding `al` and `ws` and the left operand `x`. -/
def tileSt (x : Vec F S16x4096 .bf16) (al : Vec F S2x3x32x2x256 .bf16) (ws : Vec F S2x3x128x256 .i32) (s : Mxu F) (i : Tile) : Mxu F :=
  Units.step s i.m i.reg (tileOf (View.ld ws (rWords i.m i.q i.t)) (View.ld al (rRow i.m i.q i.row0)) (View.ld al (rRow i.m i.q i.row1)))
    (lhsOf (View.ld x (rLhs i.t)))

/-- After any number of tiles the units are idle. -/
theorem idle_tiles (x : Vec F S16x4096 .bf16) (al : Vec F S2x3x32x2x256 .bf16) (ws : Vec F S2x3x128x256 .i32) :
    ∀ (l : List Tile) (s : Mxu F), Units.Idle s → Units.Idle (l.foldl (tileSt x al ws) s)
  | [], _, h => h
  | _ :: l, _, h => idle_tiles x al ws l _ (Units.idle_step h _ _ _ _)

/-- The block of a state: the two units' results, popped and combined. -/
def blockSt (s : Mxu F) : FVec F S10x256 .bf16 :=
  outOf (s.read 0 0 fits_0_16) ((s.pop 0 0 16 fits_0_16).read 1 0 fits_0_16)

variable [∀ e, Nonempty (Elt F e)]

/-- The units' state after every tile. -/
def endSt (x : Vec F S16x4096 .bf16) (gb : Vec F S3x256x512 .i8) (ga : Vec F S3x256x32 .bf16) (ub : Vec F S3x256x512 .i8)
    (ua : Vec F S3x256x32 .bf16) : Mxu F :=
  tiles.foldl (tileSt x (View.canon (scalePieces ga ua)) (View.canon (wordPieces gb ub))) Mxu.init

/-- The block the body writes, from the five blocks it reads. -/
def blockOf (x : Vec F S16x4096 .bf16) (gb : Vec F S3x256x512 .i8) (ga : Vec F S3x256x32 .bf16) (ub : Vec F S3x256x512 .i8)
    (ua : Vec F S3x256x32 .bf16) : Vec F S10x256 .bf16 :=
  View.canon [⟨rOut, blockSt (endSt x gb ga ub ua)⟩]

/-- The store of the output covers its block. -/
theorem out_cover (w : FVec F S10x256 .bf16) : ∀ y, ∃ p ∈ ([⟨rOut, w⟩] : List (View.Piece (Elt F) S10x256 .bf16)), y ∈ p.1.set :=
  View.cover_of_tiledL _ ![10, 256] (by sl_kernel_rfl)

/-! ## The stores of one plane -/

/-- The stores of one plane run: one more piece written to each scratch buffer, from the plane's scales and bits. -/
theorem storeStep_wp (c : Dev nD) (E : Set ℕ) (arg7 : Memref sig .tc .vmem S2x3x32x2x256 .bf16) (harg7 : arg7.IsWhole)
    (arg8 : Memref sig .tc .vmem S2x3x128x256 .i32) (argB : Memref sig .tc .vmem S3x256x512 .i8) (argA : Memref sig .tc .vmem S3x256x32 .bf16)
    (m : Fin 2) (q : Fin 3)
    (fB : Buf (Elt F) (argB.view.loc (c : Thread nD τ))) (fA : Buf (Elt F) (argA.view.loc (c : Thread nD τ)))
    (f7 : Buf (Elt F) (arg7.view.loc (c : Thread nD τ))) (f8 : Buf (Elt F) (arg8.view.loc (c : Thread nD τ)))
    (L7 : List (View.Piece (Elt F) S2x3x32x2x256 .bf16)) (L8 : List (View.Piece (Elt F) S2x3x128x256 .i32)) (K : PUnit → sProp 𝕄)
    (k : Prog (TpuEff nD τ sig (Elt F) Λ₀ .tc) PUnit) :
    iprop((argB.view.loc (c : Thread nD τ) ↦[argB.view.set]{fullShare} fB) ∗ (argA.view.loc (c : Thread nD τ) ↦[argA.view.set]{fullShare} fA)
        ∗ (arg7.view.loc (c : Thread nD τ) ↦[arg7.view.set]{fullShare} (arg7.view.writes (Elt F) f7 L7))
        ∗ (arg8.view.loc (c : Thread nD τ) ↦[arg8.view.set]{fullShare} (arg8.view.writes (Elt F) f8 L8))
        ∗ (iprop((argB.view.loc (c : Thread nD τ) ↦[argB.view.set]{fullShare} fB) ∗ (argA.view.loc (c : Thread nD τ) ↦[argA.view.set]{fullShare} fA)
            ∗ (arg7.view.loc (c : Thread nD τ) ↦[arg7.view.set]{fullShare} (arg7.view.writes (Elt F) f7
                (⟨rScrA m q, alphaRows (View.ld (argA.view.read (Elt F) fA) (rAlpha q))⟩ :: L7)))
            ∗ (arg8.view.loc (c : Thread nD τ) ↦[arg8.view.set]{fullShare} (arg8.view.writes (Elt F) f8
                (⟨rScrW m q, wordRows (View.ld (argB.view.read (Elt F) fB) (rBits q))⟩ :: L8))))
            -∗ wp frame (wpE (defs₀ (F := F)) Variants.none c none) E k K))
      ⊢ wp frame (wpE (defs₀ (F := F)) Variants.none c none) E (storeStep arg7 harg7 arg8 m q argB argA k) K := by
  unfold storeStep
  iintro ⟨HB, HA, H7, H8, Hk⟩
  iapply (wp_load_rect Variants.none (c : Thread nD τ) none E (m := argA) (r := rAlpha q) (View.set_slice_subset _ _)) $$ HA; iintro HA
  iapply (wp_load_rect Variants.none (c : Thread nD τ) none E (m := arg7) (r := rScrA m q) (View.set_slice_subset _ _)) $$ H7; iintro H7
  iapply (wp_store Variants.none (c : Thread nD τ) none E (m := arg7) (r := rScrA m q) (View.set_slice_subset _ _)) $$ H7; iintro H7
  iapply (wp_load_rect Variants.none (c : Thread nD τ) none E (m := argB) (r := rBits q) (View.set_slice_subset _ _)) $$ HB; iintro HB
  iapply (wp_load_rect Variants.none (c : Thread nD τ) none E (m := arg8) (r := rScrW m q) (View.set_slice_subset _ _)) $$ H8; iintro H8
  iapply (wp_store Variants.none (c : Thread nD τ) none E (m := arg8) (r := rScrW m q) (View.set_slice_subset _ _)) $$ H8; iintro H8
  iapply Hk
  isplitl [HB]; · iexact HB
  isplitl [HA]; · iexact HA
  isplitl [H7]; · iexact H7
  iexact H8

/-! ## The end -/

/-- The end of the body run: the block stored, the units found drained. -/
theorem finish_wp (c : Dev nD) (E : Set ℕ) (arg6 : Memref sig .tc .vmem S10x256 .bf16) (harg6 : arg6.IsWhole)
    (f6 : Buf (Elt F) (arg6.view.loc (c : Thread nD τ))) (s : Mxu F) (hs : Units.Idle s) (K : PUnit → sProp 𝕄) :
    iprop((arg6.view.loc (c : Thread nD τ) ↦[arg6.view.set]{fullShare} f6)
        ∗ (iprop((arg6.view.loc (c : Thread nD τ) ↦[arg6.view.set]{fullShare} (arg6.view.writes (Elt F) f6 [⟨rOut, blockSt s⟩]))) -∗ K ⟨⟩))
      ⊢ wp frame (wpE (defs₀ (F := F)) Variants.none c none) E (finish arg6 harg6 s) K := by
  unfold finish
  iintro ⟨H6, Hk⟩
  iapply (wp_load_rect Variants.none (c : Thread nD τ) none E (m := arg6) (r := rOut) (View.set_slice_subset _ _)) $$ H6; iintro H6
  iapply (wp_store Variants.none (c : Thread nD τ) none E (m := arg6) (r := rOut) (View.set_slice_subset _ _)) $$ H6; iintro H6
  iapply (wp_assume Variants.none (c : Thread nD τ) none E (Units.drained hs))
  sl_step
  iapply Hk
  iexact H6

/-! ## The tiles, one after the other -/

/-- A list of tiles run: the buffers as they were, the units' state folded over the list. -/
theorem tileSteps_wp (c : Dev nD) (E : Set ℕ) (arg1 : Memref sig .tc .vmem S16x4096 .bf16) (arg7 : Memref sig .tc .vmem S2x3x32x2x256 .bf16)
    (arg8 : Memref sig .tc .vmem S2x3x128x256 .i32)
    (f1 : Buf (Elt F) (arg1.view.loc (c : Thread nD τ))) (f7 : Buf (Elt F) (arg7.view.loc (c : Thread nD τ)))
    (f8 : Buf (Elt F) (arg8.view.loc (c : Thread nD τ))) (R : sProp 𝕄) (K : PUnit → sProp 𝕄)
    (k : Mxu F → Prog (TpuEff nD τ sig (Elt F) Λ₀ .tc) PUnit) :
    ∀ (l : List Tile) (s : Mxu F), Units.Idle s →
      (iprop((arg1.view.loc (c : Thread nD τ) ↦[arg1.view.set]{fullShare} f1) ∗ (arg7.view.loc (c : Thread nD τ) ↦[arg7.view.set]{fullShare} f7)
          ∗ (arg8.view.loc (c : Thread nD τ) ↦[arg8.view.set]{fullShare} f8) ∗ R)
        ⊢ wp frame (wpE (defs₀ (F := F)) Variants.none c none) E
            (k (l.foldl (tileSt (arg1.view.read (Elt F) f1) (arg7.view.read (Elt F) f7) (arg8.view.read (Elt F) f8)) s)) K) →
      iprop((arg1.view.loc (c : Thread nD τ) ↦[arg1.view.set]{fullShare} f1) ∗ (arg7.view.loc (c : Thread nD τ) ↦[arg7.view.set]{fullShare} f7)
          ∗ (arg8.view.loc (c : Thread nD τ) ↦[arg8.view.set]{fullShare} f8) ∗ R)
        ⊢ wp frame (wpE (defs₀ (F := F)) Variants.none c none) E (tileSteps arg1 arg7 arg8 l s k) K
  | [], s, _, h => h
  | i :: l, s, hs, h => by
    unfold tileSteps tileStep
    iintro ⟨H1, H7, H8, HR⟩
    iapply (wp_load_rect Variants.none (c : Thread nD τ) none E (m := arg8) (r := rWords i.m i.q i.t) (View.set_slice_subset _ _)) $$ H8; iintro H8
    iapply (wp_load_rect Variants.none (c : Thread nD τ) none E (m := arg7) (r := rRow i.m i.q i.row0) (View.set_slice_subset _ _)) $$ H7; iintro H7
    iapply (wp_load_rect Variants.none (c : Thread nD τ) none E (m := arg7) (r := rRow i.m i.q i.row1) (View.set_slice_subset _ _)) $$ H7; iintro H7
    iapply (wp_assume Variants.none (c : Thread nD τ) none E (Units.pushOk hs i.m i.reg))
    iapply (wp_load_rect Variants.none (c : Thread nD τ) none E (m := arg1) (r := rLhs i.t) (View.set_slice_subset _ _)) $$ H1; iintro H1
    iapply (tileSteps_wp c E arg1 arg7 arg8 f1 f7 f8 R K k l _ (Units.idle_step hs i.m i.reg _ _) h)
    isplitl [H1]; · iexact H1
    isplitl [H7]; · iexact H7
    isplitl [H8]; · iexact H8
    iexact HR

/-! ## The body's triple -/

/-- The body on its operands: the inputs read `x`, `gb`, `ga`, `ub`, `ua`; the output and the scratch buffers at anything. -/
theorem sound_kernel (c : Dev nD) (E : Set ℕ) (i : grid0.Coords) (arg1 : Memref sig .tc .vmem S16x4096 .bf16) (harg1 : arg1.IsWhole) (arg2 : Memref sig .tc .vmem S3x256x512 .i8) (harg2 : arg2.IsWhole) (arg3 : Memref sig .tc .vmem S3x256x32 .bf16) (harg3 : arg3.IsWhole) (arg4 : Memref sig .tc .vmem S3x256x512 .i8) (harg4 : arg4.IsWhole) (arg5 : Memref sig .tc .vmem S3x256x32 .bf16) (harg5 : arg5.IsWhole) (arg6 : Memref sig .tc .vmem S10x256 .bf16) (harg6 : arg6.IsWhole) (arg7 : Memref sig .tc .vmem S2x3x32x2x256 .bf16) (harg7 : arg7.IsWhole) (arg8 : Memref sig .tc .vmem S2x3x128x256 .i32) (harg8 : arg8.IsWhole)
    (x : Vec F S16x4096 .bf16) (gb : Vec F S3x256x512 .i8) (ga : Vec F S3x256x32 .bf16) (ub : Vec F S3x256x512 .i8) (ua : Vec F S3x256x32 .bf16) (K : PUnit → sProp 𝕄) :
    iprop(owns (c : Thread nD τ) arg1 fullShare x ∗ owns (c : Thread nD τ) arg2 fullShare gb ∗ owns (c : Thread nD τ) arg3 fullShare ga
        ∗ owns (c : Thread nD τ) arg4 fullShare ub ∗ owns (c : Thread nD τ) arg5 fullShare ua ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare gb ∗ owns (c : Thread nD τ) arg3 fullShare ga
            ∗ owns (c : Thread nD τ) arg4 fullShare ub ∗ owns (c : Thread nD τ) arg5 fullShare ua
            ∗ owns (c : Thread nD τ) arg6 fullShare (blockOf x gb ga ub ua)
            ∗ (∃ d, owns (c : Thread nD τ) arg7 fullShare d) ∗ (∃ d, owns (c : Thread nD τ) arg8 fullShare d)) -∗ K ⟨⟩))
      ⊢ wp frame (wpE (defs₀ (F := F)) Variants.none c none) E
          (cc0_bcq_gated i arg1 harg1 arg2 harg2 arg3 harg3 arg4 harg4 arg5 harg5 arg6 harg6 arg7 harg7 arg8 harg8) K := by
  rw [body_eq]
  unfold bodyProg owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf1 hf2 hf3 hf4 hf5
  rw [show f7 = arg7.view.writes (Elt F) f7 [] from rfl, show f8 = arg8.view.writes (Elt F) f8 [] from rfl]
  iapply (storeStep_wp c E arg7 harg7 arg8 arg2 arg3 0 0 f2 f3 f7 f8 _ _ K _)
  isplitl [H2]; · iexact H2
  isplitl [H3]; · iexact H3
  isplitl [H7]; · iexact H7
  isplitl [H8]; · iexact H8
  iintro ⟨H2, H3, H7, H8⟩
  iapply (storeStep_wp c E arg7 harg7 arg8 arg2 arg3 0 1 f2 f3 f7 f8 _ _ K _)
  isplitl [H2]; · iexact H2
  isplitl [H3]; · iexact H3
  isplitl [H7]; · iexact H7
  isplitl [H8]; · iexact H8
  iintro ⟨H2, H3, H7, H8⟩
  iapply (storeStep_wp c E arg7 harg7 arg8 arg2 arg3 0 2 f2 f3 f7 f8 _ _ K _)
  isplitl [H2]; · iexact H2
  isplitl [H3]; · iexact H3
  isplitl [H7]; · iexact H7
  isplitl [H8]; · iexact H8
  iintro ⟨H2, H3, H7, H8⟩
  iapply (storeStep_wp c E arg7 harg7 arg8 arg4 arg5 1 0 f4 f5 f7 f8 _ _ K _)
  isplitl [H4]; · iexact H4
  isplitl [H5]; · iexact H5
  isplitl [H7]; · iexact H7
  isplitl [H8]; · iexact H8
  iintro ⟨H4, H5, H7, H8⟩
  iapply (storeStep_wp c E arg7 harg7 arg8 arg4 arg5 1 1 f4 f5 f7 f8 _ _ K _)
  isplitl [H4]; · iexact H4
  isplitl [H5]; · iexact H5
  isplitl [H7]; · iexact H7
  isplitl [H8]; · iexact H8
  iintro ⟨H4, H5, H7, H8⟩
  iapply (storeStep_wp c E arg7 harg7 arg8 arg4 arg5 1 2 f4 f5 f7 f8 _ _ K _)
  isplitl [H4]; · iexact H4
  isplitl [H5]; · iexact H5
  isplitl [H7]; · iexact H7
  isplitl [H8]; · iexact H8
  iintro ⟨H4, H5, H7, H8⟩
  iapply (tileSteps_wp c E arg1 arg7 arg8 f1 _ _
    iprop((arg2.view.loc (c : Thread nD τ) ↦[arg2.view.set]{fullShare} f2) ∗ (arg3.view.loc (c : Thread nD τ) ↦[arg3.view.set]{fullShare} f3)
      ∗ (arg4.view.loc (c : Thread nD τ) ↦[arg4.view.set]{fullShare} f4) ∗ (arg5.view.loc (c : Thread nD τ) ↦[arg5.view.set]{fullShare} f5)
      ∗ (arg6.view.loc (c : Thread nD τ) ↦[arg6.view.set]{fullShare} f6) ∗ (_ -∗ K ⟨⟩)) K (finish arg6 harg6) tiles Mxu.init Units.idle_init ?_)
  rotate_left
  · isplitl [H1]; · iexact H1
    isplitl [H7]; · iexact H7
    isplitl [H8]; · iexact H8
    isplitl [H2]; · iexact H2
    isplitl [H3]; · iexact H3
    isplitl [H4]; · iexact H4
    isplitl [H5]; · iexact H5
    isplitl [H6]; · iexact H6
    iexact Hk
  iintro ⟨H1, H7, H8, H2, H3, H4, H5, H6, Hk⟩
  iapply (finish_wp c E arg6 harg6 f6 _ (idle_tiles _ _ _ tiles Mxu.init Units.idle_init) K)
  isplitl [H6]; · iexact H6
  iintro H6
  iapply Hk
  isplitl [H1]; · iexists f1; isplitr; swap; iexact H1; ipureintro; rfl
  isplitl [H2]; · iexists f2; isplitr; swap; iexact H2; ipureintro; rfl
  isplitl [H3]; · iexists f3; isplitr; swap; iexact H3; ipureintro; rfl
  isplitl [H4]; · iexists f4; isplitr; swap; iexact H4; ipureintro; rfl
  isplitl [H5]; · iexists f5; isplitr; swap; iexact H5; ipureintro; rfl
  isplitl [H6]
  · iexists _; isplitr; swap; iexact H6
    ipureintro
    rw [View.read_writes_eq_canon _ _ _ (out_cover _)]
    unfold blockOf endSt
    rw [← View.read_writes_eq_canon arg7.view f7 _ (scale_cover (arg3.view.read (Elt F) f3) (arg5.view.read (Elt F) f5)),
      ← View.read_writes_eq_canon arg8.view f8 _ (word_cover (arg2.view.read (Elt F) f2) (arg4.view.read (Elt F) f4))]
    rfl
  isplitl [H7]
  · iexists _, _; isplitr; swap; iexact H7; ipureintro; rfl
  iexists _, _; isplitr; swap; iexact H8; ipureintro; rfl

end Cert.Proof.KernelIdeal

end
-- ==== Proof.IdealRun.lean ====
/-
  `KernelIdeal` run: the pipeline's proof data, whose output block at a point is `blockOf` of the blocks the body reads there,
  the body's obligation at every point, the run of the whole program, and the frame.
-/
module

public import proofs.«01_k».proof.Proof.IdealBody

@[expose] public section

set_option maxRecDepth 16384

noncomputable section

namespace Cert.Proof.KernelIdeal

open Cert.KernelIdeal Cert.KernelIdeal.Gen Cert.Proof.Tiles
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The proof data -/

/-- The block written at point `t`, from the blocks of the arrays there. -/
def outBlk (c : Dev nD) (t : Fin cfg0.N) : Vec F S10x256 .bf16 :=
  blockOf (iblk m c 0 t) (iblk m c 1 t) (iblk m c 2 t) (iblk m c 3 t) (iblk m c 4 t)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk m c t
  Φ _ := Pipeline.ΦA spec0 c
  q _ := fullShare
  owed _ := 0

/-- A window's array at the launch is the array the host code left. -/
theorem A_eq (c : Dev nD) (w : Fin cfg0.W) : (dats m 0 c).A w = V m c (Pipeline.arrRef spec0 w) := by
  dsimp only [dats]

/-- What the body leaves in each window: the inputs as they were, the output at its block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outBlk m c t := by dsimp only [dats]

/-- What the body finds in each input window: the block of its array. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The scratch buffers, whole. -/
abbrev scA : Memref sig .tc .vmem S2x3x32x2x256 .bf16 := Memref.whole cc0_scratch0
abbrev scW : Memref sig .tc .vmem S2x3x128x256 .i32 := Memref.whole cc0_scratch1

/-- The invariant: the scratch buffers at some contents, the generator register at some state. -/
theorem Phi_eq (c : Dev nD) :
    (Pipeline.ΦA spec0 c : sProp 𝕄)
      = iprop(iprop((∃ d, owns (c : Thread nD τ) scA fullShare d) ∗ (∃ d, owns (c : Thread nD τ) scW fullShare d)) ∗ (∃ r, prngReg c r)) := by
  unfold Pipeline.ΦA; rw [scopedRest0_eq]; simp only [scA, scW, owns_whole]; try rfl

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body run at a grid point, from its windows and scratch buffers. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi_eq,
    after0_0, after0_1, after0_2, after0_3, after0_4, after0_5]
  unfold outBlk
  iintro ⟨⟨⟨HA, HW⟩, Hg⟩, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [HA]; · iexact HA
  isplitl [HW]; · iexact HW
  iintro ⟨H0, H1, H2, H3, H4, H5, HA, HW⟩
  isplitl [HA HW Hg]
  · isplitl [HA HW]
    · isplitl [HA]; · iexact HA
      iexact HW
    iexact Hg
  isplitl [Ho]; · iexact Ho
  isplitl [H0]; · iexact H0
  isplitl [H1]; · iexact H1
  isplitl [H2]; · iexact H2
  isplitl [H3]; · iexact H3
  isplitl [H4]; · iexact H4
  iexact H5

/-- The printed body is the one the pipeline calls at a grid point. -/
theorem defs₀_row (t : Fin cfg0.N) :
    defs₀ (F := F) .tc cfg0.body (cfg0.bodyArgs t (cfg0.slots t)) = bodyAt0 t := by
  unfold defs₀; rw [Defs.onTc_tc]

/-- The body keeps its obligation at every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the run theorem's implicit arguments are found by unifying its conclusion with this one, which takes unfolding plain
-- definitions in a metavariable's type
set_option backward.isDefEq.respectTransparency.types false in
/-- The run: every array of the pipeline at what the proof data computes, every other buffer as the region and the later
    host lines leave it, and every semaphore counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl) (Q' := _) (hQ' := fun _ h => h)

/-- The whole program run: its arrays at what the pipeline and the host code after it leave. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the argument arrays end unchanged and every counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Proof.KernelIdeal

end
-- ==== Proof.IdealTile.lean ====
/-
  One tile over the extended reals: its elements are the signs of the channels, times four, times the scales.
-/
module

public import proofs.«01_k».proof.Proof.IdealProg
public import proofs.«01_k».proof.Proof.Gen.KernelIdeal
public import Idealize.ShloMosaic.Lib.Pointwise
public import Idealize.ShloMosaic.Lib.BitcastFour

@[expose] public section

set_option maxRecDepth 16384

noncomputable section

namespace Cert.Proof.KernelIdeal

open Cert.KernelIdeal Cert.KernelIdeal.Gen Cert.Proof.Tiles
open Idealize.ShloMosaic Idealize.SL.Sem

/-- The rows of scales are the transposed block of scales. -/
theorem alphaRows_apply (a : Vec Ideal S1x256x32 .bf16) (r : Fin 32) (b : Fin 2) (o : Fin 256) :
    alphaRows a (ix5 0 0 r b o) = a (ix3 0 o r) := by
  pointwise [alphaRows]
  split <;> rfl

/-- A bit of a word is a bit of one of its four bytes. -/
theorem wordRows_bit (b : Vec Ideal S1x256x512 .i8) (R : Fin 128) (o : Fin 256) (i : Nat) (hi : i < 32) :
    (wordRows b (ix4 0 0 R o)).getLsbD i = (b (ix3 0 o ⟨4 * R.val + i / 8, by omega⟩)).getLsbD (i % 8) := by
  have h : wordRows b (ix4 0 0 R o) = bitcast S128x256 32 (transpose S512x256 [1, 0] (shapeCast S256x512 b shapeCasts_S1x256x512_S256x512) transposes_S256x512_p1_0_S512x256) bitcasts_S512x256_w8_S128x256_w32 (ix2 R o) := by
    pointwise [wordRows]
  rw [h]
  rw [show (ix2 R o) = ValueIdx.ix2 R o from rfl]
  rw [bitcast_8_32_getLsbD_ix2 _ _ R o i hi ⟨4 * R.val + i / 8, by omega⟩ rfl]
  congr 1
  show transpose S512x256 [1, 0] (shapeCast S256x512 b shapeCasts_S1x256x512_S256x512) transposes_S256x512_p1_0_S512x256 (ix2 ⟨4 * R.val + i / 8, by omega⟩ o) = _
  pointwise

/-- One nibble of a word, one of its bits set against four: minus four or four. -/
theorem nibble (v : BitVec 32) (z c : Nat) (hz : z < 4) (hc : c < 8) :
    (((BitVec.sshiftRight ((((v <<< z) &&& 2290649224#32) ||| 1145324612#32) <<< (28 - 4 * c)) 28)).toInt
      = if v.getLsbD (4 * c + 3 - z) then -4 else 4) := by
  have e : BitVec.sshiftRight ((((v <<< z) &&& 2290649224#32) ||| 1145324612#32) <<< (28 - 4 * c)) 28
      = if v.getLsbD (4 * c + 3 - z) then BitVec.ofInt 32 (-4) else BitVec.ofInt 32 4 := by
    have hk : ∀ c < 8, (2290649224#32).getLsbD (4 * c) = false ∧ (1145324612#32).getLsbD (4 * c) = false
        ∧ (2290649224#32).getLsbD (4 * c + 1) = false ∧ (1145324612#32).getLsbD (4 * c + 1) = false
        ∧ (1145324612#32).getLsbD (4 * c + 2) = true
        ∧ (2290649224#32).getLsbD (4 * c + 3) = true ∧ (1145324612#32).getLsbD (4 * c + 3) = false := by decide
    obtain ⟨h0, h0', h1, h1', h2, h3, h3'⟩ := hk c hc
    have bit : ∀ i, i < 4 → (((((v <<< z) &&& 2290649224#32) ||| 1145324612#32) <<< (28 - 4 * c))).getLsbD (28 + i)
        = ((((v <<< z).getLsbD (4 * c + i) && (2290649224#32).getLsbD (4 * c + i)) || (1145324612#32).getLsbD (4 * c + i))) := by
      intro i hi
      rw [BitVec.getLsbD_shiftLeft, show 28 + i - (28 - 4 * c) = 4 * c + i by omega, BitVec.getLsbD_or, BitVec.getLsbD_and]
      simp only [show 28 + i < 32 by omega, show ¬ (28 + i < 28 - 4 * c) by omega, decide_true, decide_false, Bool.not_false, Bool.true_and]
    have top : (v <<< z).getLsbD (4 * c + 3) = v.getLsbD (4 * c + 3 - z) := by
      rw [BitVec.getLsbD_shiftLeft]
      simp only [show 4 * c + 3 < 32 by omega, show ¬ (4 * c + 3 < z) by omega, decide_true, decide_false, Bool.not_false, Bool.true_and]
    have b0 := bit 0 (by omega)
    have b1 := bit 1 (by omega)
    have b2 := bit 2 (by omega)
    have b3 := bit 3 (by omega)
    rw [Nat.add_zero, Nat.add_zero, h0, h0', Bool.and_false, Bool.or_false] at b0
    rw [h1, h1', Bool.and_false, Bool.or_false] at b1
    rw [h2, Bool.or_true] at b2
    rw [h3, h3', Bool.and_true, Bool.or_false, top] at b3
    generalize (((v <<< z) &&& 2290649224#32) ||| 1145324612#32) <<< (28 - 4 * c) = y at b0 b1 b2 b3 ⊢
    generalize v.getLsbD (4 * c + 3 - z) = s at b3 ⊢
    apply BitVec.eq_of_getLsbD_eq
    intro i hi
    rw [BitVec.getLsbD_sshiftRight, BitVec.msb_eq_getLsbD_last]
    have hbig : 3 ≤ i → (if 28 + i < 32 then y.getLsbD (28 + i) else y.getLsbD (32 - 1)) = s := by
      intro h; split
      · rw [show i = 3 by omega]; exact b3
      · exact b3
    have hr : ∀ s : Bool, ∀ i < 32, (if s = true then BitVec.ofInt 32 (-4) else BitVec.ofInt 32 4).getLsbD i
        = if i < 2 then false else if i = 2 then true else s := by decide
    rw [hr s i hi]
    rcases Nat.lt_or_ge i 3 with h | h
    · interval_cases i
      · simpa using b0
      · simpa using b1
      · simpa using b2
    · rw [hbig h]
      simp [show ¬ 32 ≤ i by omega, show ¬ i < 2 by omega, show i ≠ 2 by omega]
  rw [e]
  split <;> decide

/-- The nibbles of a word, minus four for a set bit and four for a clear one. -/
theorem signs_apply (z : Nat) (hz : z < 4) (w : IVec S8x256 32) (n : Fin 64) (o : Fin 256) :
    (signs (BitVec.ofNat 32 z) w (ix2 n o)).toInt = if (w (ix2 ⟨n.val / 8, by omega⟩ o)).getLsbD (4 * (n.val % 8) + 3 - z) then -4 else 4 := by
  have h : signs (BitVec.ofNat 32 z) w (ix2 n o) = IntOp.shrsi .vector (IntOp.shli .vector (IntOp.ori (IntOp.andi (IntOp.shli .vector (w (ix2 ⟨n.val / 8, by omega⟩ o)) (BitVec.ofNat 32 z)) 2290649224#32) 1145324612#32) (IntOp.subi 28#32 (IntOp.muli 4#32 (BitVec.ofNat 32 (n.val%8))))) 28#32 := by
    pointwise [signs]
  rw [h, ← nibble _ z (n.val % 8) hz (by omega)]
  have e1 : (BitVec.ofNat 32 z).toNat = z := by simp; omega
  have e2 : (IntOp.subi 28#32 (IntOp.muli 4#32 (BitVec.ofNat 32 (n.val%8)))).toNat = 28 - 4 * (n.val % 8) := by
    simp [IntOp.subi, IntOp.muli]; omega
  simp only [IntOp.shrsi, IntOp.shli, IntOp.ori, IntOp.andi, e1, e2]
  rw [if_pos (by decide), if_pos (by omega), if_pos (by omega)]
  simp [e1, e2, BitVec.sshiftRight', BitVec.shiftLeft_eq']

/-- A row of scales repeated over the rows of its half tile. -/
theorem scale32_apply (r : Vec Ideal S1x1x1x2x256 .bf16) (n : Fin 32) (o : Fin 256) :
    scale32 r (ix2 n o) = r (ix5 0 0 0 ⟨n.val % 2, by omega⟩ o) := by
  pointwise [scale32, halfRows]
  simp only [dite_eq_ite, ite_self]
  split
  · next h => congr 2; exact Fin.ext (by simp; omega)
  · next h => congr 2; exact Fin.ext (by simp; omega)

/-- A column block of the left operand is itself. -/
theorem lhsOf_apply (x : Vec Ideal S16x256 .bf16) (r : Fin 16) (p : Fin 256) : lhsOf x (ix2 r p) = x (ix2 r p) := by
  pointwise [lhsOf]

/-- Minus a quarter. -/
theorem quarter : Ideal.ofBits .f32 0xBE800000#32 = ((-1/4 : ℝ) : EReal) := by
  simp [Ideal.ofBits, Ideal.ieee, -EReal.coe_mul]; norm_num

/-- The output of the two accumulators at an index. -/
theorem outOf_apply (g u : FVec Ideal S16x256 .f32) (r : Fin 10) (o : Fin 256) :
    outOf g u (ix2 r o) = (g (ix2 ⟨r.val, by omega⟩ o) * ((-1/4 : ℝ) : EReal)) * Ideal.logistic (g (ix2 ⟨r.val, by omega⟩ o) * ((-1/4 : ℝ) : EReal))
      * (u (ix2 ⟨r.val, by omega⟩ o) * ((-1/4 : ℝ) : EReal)) := by
  rw [← quarter]
  pointwise [outOf]

/-- Four blocks of rows one above the other, at a row. -/
theorem quarters (t0 t1 t2 t3 : FVec Ideal S64x256 .bf16) (k : Fin 4) (n : Fin 64) (o : Fin 256) :
    concatenate S256x256 0 [⟨S64x256, t0⟩, ⟨S64x256, t1⟩, ⟨S64x256, t2⟩, ⟨S64x256, t3⟩] concatenates_S64x256_S64x256_S64x256_S64x256_S256x256_d0
      (ix2 ⟨64 * k.val + n.val, by omega⟩ o) = (![t0, t1, t2, t3] k) (ix2 n o) := by
  pointwise
  match k with
  | ⟨0, _⟩ => rw [dif_pos (by show 64 * 0 + n.val < 64; omega)]; show t0 _ = t0 _; congr 2; exact Fin.ext (by show 64 * 0 + n.val = n.val; omega)
  | ⟨1, _⟩ =>
    rw [dif_neg (by show ¬ 64 * 1 + n.val < 64; omega), dif_pos (by show 64 * 1 + n.val - 64 < 64; omega)]
    show t1 _ = t1 _; congr 2; exact Fin.ext (by show 64 * 1 + n.val - 64 = n.val; omega)
  | ⟨2, _⟩ =>
    rw [dif_neg (by show ¬ 64 * 2 + n.val < 64; omega), dif_neg (by show ¬ 64 * 2 + n.val - 64 < 64; omega),
      dif_pos (by show 64 * 2 + n.val - 64 - 64 < 64; omega)]
    show t2 _ = t2 _; congr 2; exact Fin.ext (by show 64 * 2 + n.val - 64 - 64 = n.val; omega)
  | ⟨3, _⟩ =>
    rw [dif_neg (by show ¬ 64 * 3 + n.val < 64; omega), dif_neg (by show ¬ 64 * 3 + n.val - 64 < 64; omega),
      dif_neg (by show ¬ 64 * 3 + n.val - 64 - 64 < 64; omega)]
    show t3 _ = t3 _; congr 2; exact Fin.ext (by show 64 * 3 + n.val - 64 - 64 - 64 = n.val; omega)

/-- One entry of a tile: the sign of its bit times its scale. -/
theorem tileOf_apply (w : Vec Ideal S1x1x8x256 .i32) (r0 r1 : Vec Ideal S1x1x1x2x256 .bf16) (k : Fin 4) (n : Fin 64) (o : Fin 256) :
    tileOf w r0 r1 (ix2 ⟨64 * k.val + n.val, by omega⟩ o)
      = (((if (w (ix4 0 0 ⟨n.val / 8, by omega⟩ o)).getLsbD (4 * (n.val % 8) + k.val) then -4 else 4 : Int) : ℝ) : EReal)
        * (if n.val < 32 then r0 (ix5 0 0 0 ⟨n.val % 2, by omega⟩ o) else r1 (ix5 0 0 0 ⟨n.val % 2, by omega⟩ o)) := by
  have hs : ∀ (z : Nat), z < 4 → (FloatOps.sitofp FTy.bf16 (signs (BitVec.ofNat 32 z) (shapeCast S8x256 w shapeCasts_S1x1x8x256_S8x256) (ix2 n o)) : Ideal .bf16)
      = (((if (w (ix4 0 0 ⟨n.val / 8, by omega⟩ o)).getLsbD (4 * (n.val % 8) + 3 - z) then -4 else 4 : Int) : ℝ) : EReal) := by
    intro z hz
    have hw : shapeCast S8x256 w shapeCasts_S1x1x8x256_S8x256 (ix2 ⟨n.val / 8, by omega⟩ o) = w (ix4 0 0 ⟨n.val / 8, by omega⟩ o) := by
      pointwise
    rw [← hw, ← signs_apply z hz]
    rfl
  have hc : concatenate S64x256 0 [⟨S32x256, scale32 r0⟩, ⟨S32x256, scale32 r1⟩] concatenates_S32x256_S32x256_S64x256_d0 (ix2 n o)
      = (if n.val < 32 then r0 (ix5 0 0 0 ⟨n.val % 2, by omega⟩ o) else r1 (ix5 0 0 0 ⟨n.val % 2, by omega⟩ o)) := by
    pointwise
    split
    · rw [scale32_apply]
    · rw [scale32_apply]; congr 2; exact Fin.ext (by simp; omega)
  rw [← hc]
  have key : ∀ z : Nat, z < 4 → (mulf (sitofp .bf16 (signs (BitVec.ofNat 32 z) (shapeCast S8x256 w shapeCasts_S1x1x8x256_S8x256)))
      (concatenate S64x256 0 [⟨S32x256, scale32 r0⟩, ⟨S32x256, scale32 r1⟩] concatenates_S32x256_S32x256_S64x256_d0) : FVec Ideal S64x256 .bf16) (ix2 n o)
      = (((if (w (ix4 0 0 ⟨n.val / 8, by omega⟩ o)).getLsbD (4 * (n.val % 8) + 3 - z) then -4 else 4 : Int) : ℝ) : EReal)
        * concatenate S64x256 0 [⟨S32x256, scale32 r0⟩, ⟨S32x256, scale32 r1⟩] concatenates_S32x256_S32x256_S64x256_d0 (ix2 n o) := by
    intro z hz
    rw [← hs z hz]; rfl
  unfold tileOf
  refine (quarters _ _ _ _ k n o).trans ?_
  match k with
  | ⟨0, _⟩ => exact key 3 (by decide)
  | ⟨1, _⟩ => exact key 2 (by decide)
  | ⟨2, _⟩ => exact key 1 (by decide)
  | ⟨3, _⟩ => exact key 0 (by decide)

end Cert.Proof.KernelIdeal

end
-- ==== Proof.IdealBlock.lean ====
/-
  One block of the result over the extended reals, as sums of the left operand's elements times signed scales.
-/
module

public import proofs.«01_k».proof.Proof.IdealTile
public import proofs.«01_k».proof.Proof.IdealBody
public import Idealize.ShloMosaic.Lib.MatmulPlain
public import Idealize.ShloMosaic.Lib.Pipeline.ValueKit.Tiles

@[expose] public section

set_option maxRecDepth 16384

noncomputable section

namespace Cert.Proof.Units

open Idealize.ShloMosaic Idealize.ShloMosaic.Mxu

/-- A pass over the extended reals at a row and a column: the products summed. -/
theorem pass_apply (L : FVec Ideal (STile 16) .bf16) (T : FVec Ideal (STile 256) .bf16) (r : Fin 16) (o : Fin 256) :
    (FloatOps.mxuPass (DotDims.plain 16 256 256) L T : FVec Ideal (STile 16) .f32) (ix2 r o) = ∑ p : Fin 256, L (ix2 r p) * T (ix2 p o) := by
  have h := Ideal.matmul_plain_apply none L T (fun _ => (0 : EReal)) r o
  rw [Ideal.matmul_apply, zero_add, zero_add] at h
  exact h

/-- A step adds its pass to the unit it is on. -/
theorem read_step {s : Mxu Ideal} (h : Idle s) (q r : Fin 2) (T : FVec Ideal (STile 256) .bf16) (L : FVec Ideal (STile 16) .bf16) (R : Fin 16) (o : Fin 256) :
    (step s q r T L).read q 0 fits (ix2 R o) = s.read q 0 fits (ix2 R o) + ∑ p : Fin 256, L (ix2 R p) * T (ix2 p o) := by
  unfold step
  rw [read_accLhs, read_pushed, live_pushed, staged_eq, reg_pushed_of_none _ _ _ _ _ (h.reg q r)]
  show deposit (s.live q (row fits R)) (s.read q 0 fits (ix2 R o)) ((FloatOps.mxuPass (DotDims.plain 16 256 256) L T : FVec Ideal (STile 16) .f32) (ix2 R o)) = _
  rw [pass_apply]
  cases hl : s.live q (row fits R)
  · have : s.read q 0 fits (ix2 R o) = (0 : EReal) := (s.clean q (row fits R) o hl).trans Ideal.ofBits_zero_f32
    rw [this, zero_add]; rfl
  · rfl

/-- A step leaves the other unit as it was. -/
theorem read_step_ne (s : Mxu Ideal) (q r q' : Fin 2) (hq : q' ≠ q) (T : FVec Ideal (STile 256) .bf16) (L : FVec Ideal (STile 16) .bf16) :
    (step s q r T L).read q' 0 fits = s.read q' 0 fits := by
  unfold step
  rw [read_accLhs_ne (hne := .inl hq), read_pushed]

end Cert.Proof.Units

namespace Cert.Proof.KernelIdeal

open Cert.KernelIdeal Cert.KernelIdeal.Gen Cert.Proof.Tiles
open Idealize.ShloMosaic Idealize.SL.Sem

/-- The bit of a channel: bit `c % 8` of byte `c / 8`. -/
def bitAt {n : ℕ} (b : IVec ⟨3, ![3, n, 512]⟩ 8) (q : Fin 3) (o : Fin n) (c : Fin 4096) : Bool :=
  (b (ix3 q o ⟨c.val / 8, by omega⟩)).getLsbD (c.val % 8)

/-- The scale of a channel's group of 128. -/
def scaleAt {n : ℕ} (a : FVec Ideal ⟨3, ![3, n, 32]⟩ .bf16) (q : Fin 3) (o : Fin n) (c : Fin 4096) : EReal := a (ix3 q o ⟨c.val / 128, by omega⟩)

/-- The channel of column `p` of column block `t` of the permuted left operand. -/
def chan (t : Fin 16) (p : Fin 256) : Fin 4096 := ⟨256 * t.val + 4 * (p.val % 64) + p.val / 64, by omega⟩

/-- Minus four for a set bit, four for a clear one. -/
def nib (b : Bool) : EReal := (((if b then -4 else 4 : Int) : ℝ) : EReal)

/-- What one tile adds. -/
def tileTerm (x : Vec Ideal S16x4096 .bf16) (b : Vec Ideal S3x256x512 .i8) (a : Vec Ideal S3x256x32 .bf16) (q : Fin 3) (t : Fin 16) (r : Fin 16) (o : Fin 256) : EReal :=
  ∑ p : Fin 256, x (ix2 r ⟨256 * t.val + p.val, by omega⟩) * (nib (bitAt b q o (chan t p)) * scaleAt a q o (chan t p))

/-- A piece of the buffer of scales agrees with the scale at every index it covers. -/
theorem scale_at (f : Fin 2 → Vec Ideal S3x256x32 .bf16) (m m' : Fin 2) (q q' : Fin 3) (r : Fin 32) (b : Fin 2) (o : Fin 256) :
    View.TileAt (S := S2x3x32x2x256) (ix5 m q r b o) ![m'.val, q'.val, 0, 0, 0] S1x1x32x2x256.size
      (alphaRows (View.ld (f m') (rAlpha q'))) (f m (ix3 q o r)) := by
  intro x hx
  have h0 : m.val = m'.val + (x 0).val := hx 0
  have h1 : q.val = q'.val + (x 1).val := hx 1
  have h2 : r.val = 0 + (x 2).val := hx 2
  have h3 : b.val = 0 + (x 3).val := hx 3
  have h4 : o.val = 0 + (x 4).val := hx 4
  have l0 : (x 0).val < 1 := (x 0).isLt
  have l1 : (x 1).val < 1 := (x 1).isLt
  obtain rfl : m = m' := Fin.ext (by omega)
  obtain rfl : q = q' := Fin.ext (by omega)
  have ex : x = ix5 0 0 r b o := by
    funext a
    match a with
    | ⟨0, _⟩ => exact Fin.ext (by show (x 0).val = 0; omega)
    | ⟨1, _⟩ => exact Fin.ext (by show (x 1).val = 0; omega)
    | ⟨2, _⟩ => exact Fin.ext (by show (x 2).val = r.val; omega)
    | ⟨3, _⟩ => exact Fin.ext (by show (x 3).val = b.val; omega)
    | ⟨4, _⟩ => exact Fin.ext (by show (x 4).val = o.val; omega)
  rw [ex, alphaRows_apply]
  pointwise

/-- The buffer of scales, filled, read at an index. -/
theorem scale_read (ga ua : Vec Ideal S3x256x32 .bf16) (m : Fin 2) (q : Fin 3) (r : Fin 32) (b : Fin 2) (o : Fin 256) :
    View.canon (scalePieces ga ua) (ix5 m q r b o) = (![ga, ua] m) (ix3 q o r) := by
  refine View.canon_eq_of_allAt _ _ _ (scale_cover ga ua _) ?_
  unfold scalePieces
  have h := fun m' q' => scale_at ![ga, ua] m m' q q' r b o
  exact View.allAt_cons_unit _ _ _ _ _ (h 1 2) <| View.allAt_cons_unit _ _ _ _ _ (h 1 1) <| View.allAt_cons_unit _ _ _ _ _ (h 1 0) <|
    View.allAt_cons_unit _ _ _ _ _ (h 0 2) <| View.allAt_cons_unit _ _ _ _ _ (h 0 1) <| View.allAt_cons_unit _ _ _ _ _ (h 0 0) <| View.allAt_nil _ _

/-- A piece of the buffer of words agrees with the bits at every index it covers. -/
theorem word_at (f : Fin 2 → Vec Ideal S3x256x512 .i8) (m m' : Fin 2) (q q' : Fin 3) (r : Fin 128) (o : Fin 256) :
    View.TileAt (Val := Elt Ideal) (e := .i32) (S := S2x3x128x256) (ix4 m q r o) ![m'.val, q'.val, 0, 0] S1x1x128x256.size
      (wordRows (View.ld (f m') (rBits q'))) (wordRows (View.ld (f m) (rBits q)) (ix4 0 0 r o)) := by
  intro x hx
  have h0 : m.val = m'.val + (x 0).val := hx 0
  have h1 : q.val = q'.val + (x 1).val := hx 1
  have h2 : r.val = 0 + (x 2).val := hx 2
  have h3 : o.val = 0 + (x 3).val := hx 3
  have l0 : (x 0).val < 1 := (x 0).isLt
  have l1 : (x 1).val < 1 := (x 1).isLt
  obtain rfl : m = m' := Fin.ext (by omega)
  obtain rfl : q = q' := Fin.ext (by omega)
  have ex : x = ix4 0 0 r o := by
    funext a
    match a with
    | ⟨0, _⟩ => exact Fin.ext (by show (x 0).val = 0; omega)
    | ⟨1, _⟩ => exact Fin.ext (by show (x 1).val = 0; omega)
    | ⟨2, _⟩ => exact Fin.ext (by show (x 2).val = r.val; omega)
    | ⟨3, _⟩ => exact Fin.ext (by show (x 3).val = o.val; omega)
  rw [ex]

/-- A plane of a block of bytes, read at an index. -/
theorem ld_bits (b : Vec Ideal S3x256x512 .i8) (q : Fin 3) (o : Fin 256) (y : Fin 512) : View.ld b (rBits q) (ix3 0 o y) = b (ix3 q o y) := by
  pointwise

/-- A bit of the buffer of words, filled, read at an index. -/
theorem word_read (gb ub : Vec Ideal S3x256x512 .i8) (m : Fin 2) (q : Fin 3) (r : Fin 128) (o : Fin 256) (i : Nat) (hi : i < 32) :
    (View.canon (wordPieces gb ub) (ix4 m q r o) : BitVec 32).getLsbD i
      = ((![gb, ub] m) (ix3 q o ⟨4 * r.val + i / 8, by omega⟩) : BitVec 8).getLsbD (i % 8) := by
  have e : View.canon (wordPieces gb ub) (ix4 m q r o) = wordRows (View.ld (![gb, ub] m) (rBits q)) (ix4 0 0 r o) := by
    refine View.canon_eq_of_allAt _ _ _ (word_cover gb ub _) ?_
    unfold wordPieces
    have h := fun m' q' => word_at ![gb, ub] m m' q q' r o
    exact View.allAt_cons_unit _ _ _ _ _ (h 1 2) <| View.allAt_cons_unit _ _ _ _ _ (h 1 1) <| View.allAt_cons_unit _ _ _ _ _ (h 1 0) <|
      View.allAt_cons_unit _ _ _ _ _ (h 0 2) <| View.allAt_cons_unit _ _ _ _ _ (h 0 1) <| View.allAt_cons_unit _ _ _ _ _ (h 0 0) <| View.allAt_nil _ _
  rw [e, wordRows_bit _ _ _ _ hi, ld_bits]

variable (x : Vec Ideal S16x4096 .bf16) (gb ub : Vec Ideal S3x256x512 .i8) (ga ua : Vec Ideal S3x256x32 .bf16)

/-- The bit of a channel, from its byte and its place in the byte. -/
theorem bitAt_eq {n : ℕ} (b : IVec ⟨3, ![3, n, 512]⟩ 8) (q : Fin 3) (o : Fin n) (c : Fin 4096) (y : Fin 512) (i : ℕ) (hy : y.val = c.val / 8)
    (hi : i = c.val % 8) : (b (ix3 q o y)).getLsbD i = bitAt b q o c := by
  subst hi; obtain ⟨y, hy'⟩ := y; subst hy; rfl

/-- The scale of a channel, from its group. -/
theorem scaleAt_eq {n : ℕ} (a : FVec Ideal ⟨3, ![3, n, 32]⟩ .bf16) (q : Fin 3) (o : Fin n) (c : Fin 4096) (y : Fin 32) (hy : y.val = c.val / 128) :
    a (ix3 q o y) = scaleAt a q o c := by
  obtain ⟨y, hy'⟩ := y; subst hy; rfl

/-- One entry of a staged tile, in the terms of its channel, the scratch buffers holding the words and the scales. -/
theorem tile_entry_of (W : Vec Ideal S2x3x128x256 .i32) (A : Vec Ideal S2x3x32x2x256 .bf16) (b : Vec Ideal S3x256x512 .i8) (a : Vec Ideal S3x256x32 .bf16)
    (m : Fin 2) (q : Fin 3) (t : Fin 16)
    (hW : ∀ (r : Fin 128) (o : Fin 256) (i : ℕ) (hi : i < 32), (W (ix4 m q r o) : BitVec 32).getLsbD i = (b (ix3 q o ⟨4 * r.val + i / 8, by omega⟩) : BitVec 8).getLsbD (i % 8))
    (hA : ∀ (r : Fin 32) (j : Fin 2) (o : Fin 256), A (ix5 m q r j o) = a (ix3 q o r))
    (r0 r1 : Fin 32) (h0 : r0.val = 2 * t.val) (h1 : r1.val = 2 * t.val + 1) (k : Fin 4) (n : Fin 64) (o : Fin 256) (c : Fin 4096) (hc : c.val = 256 * t.val + 4 * n.val + k.val) :
    tileOf (View.ld W (rWords m q t)) (View.ld A (rRow m q r0)) (View.ld A (rRow m q r1)) (ix2 ⟨64 * k.val + n.val, by omega⟩ o)
      = nib (bitAt b q o c) * scaleAt a q o c := by
  have hw : View.ld W (rWords m q t) (ix4 0 0 ⟨n.val / 8, by omega⟩ o) = W (ix4 m q ⟨8 * t.val + n.val / 8, by omega⟩ o) := by
    pointwise
  have hr : ∀ (r : Fin 32) (j : Fin 2), View.ld A (rRow m q r) (ix5 0 0 0 j o) = a (ix3 q o r) := by
    intro r j; rw [← hA r j o]; pointwise
  rw [tileOf_apply, hw, hr, hr, hW _ _ _ (by omega)]
  rw [bitAt_eq b q o c _ _ (by show 4 * (8 * t.val + n.val / 8) + (4 * (n.val % 8) + k.val) / 8 = c.val / 8; omega) (by omega)]
  unfold nib
  congr 1
  split
  · exact scaleAt_eq a q o c r0 (by omega)
  · exact scaleAt_eq a q o c r1 (by omega)

/-- An element of a tile: four times the sign of its channel, times the scale. -/
theorem tile_entry (i : Tile) (p : Fin 256) (o : Fin 256) :
    tileOf (View.ld (View.canon (wordPieces gb ub)) (rWords i.m i.q i.t)) (View.ld (View.canon (scalePieces ga ua)) (rRow i.m i.q i.row0))
        (View.ld (View.canon (scalePieces ga ua)) (rRow i.m i.q i.row1)) (ix2 p o)
      = nib (bitAt (![gb, ub] i.m) i.q o (chan i.t p)) * scaleAt (![ga, ua] i.m) i.q o (chan i.t p) := by
  have ep : p = ⟨64 * (p.val / 64) + p.val % 64, by omega⟩ := Fin.ext (by show p.val = 64 * (p.val / 64) + p.val % 64; omega)
  refine (congrArg (fun p => tileOf _ _ _ (ix2 p o)) ep).trans ?_
  exact tile_entry_of _ _ _ _ i.m i.q i.t (fun r o k hk => word_read gb ub i.m i.q r o k hk) (fun r j o => scale_read ga ua i.m i.q r j o)
    i.row0 i.row1 rfl rfl ⟨p.val / 64, by omega⟩ ⟨p.val % 64, by omega⟩ o (chan i.t p) rfl

/-- One tile, at a unit's accumulator. -/
theorem read_tileSt {s : Mxu Ideal} (h : Units.Idle s) (i : Tile) (m : Fin 2) (r : Fin 16) (o : Fin 256) :
    (tileSt x (View.canon (scalePieces ga ua)) (View.canon (wordPieces gb ub)) s i).read m 0 Units.fits (ix2 r o)
      = s.read m 0 Units.fits (ix2 r o) + (if i.m = m then tileTerm x (![gb, ub] i.m) (![ga, ua] i.m) i.q i.t r o else 0) := by
  unfold tileSt
  by_cases hm : i.m = m
  · rw [if_pos hm]; subst hm
    rw [Units.read_step h]
    congr 1
    unfold tileTerm
    refine Finset.sum_congr rfl fun p _ => ?_
    rw [tile_entry, lhsOf_apply]
    congr 1
    pointwise
  · rw [if_neg hm, Units.read_step_ne _ _ _ _ (fun h => hm h.symm), add_zero]

/-- What a list of tiles adds to a unit's accumulator. -/
theorem read_tiles (m : Fin 2) (r : Fin 16) (o : Fin 256) : ∀ (l : List Tile) (s : Mxu Ideal), Units.Idle s →
    (l.foldl (tileSt x (View.canon (scalePieces ga ua)) (View.canon (wordPieces gb ub))) s).read m 0 Units.fits (ix2 r o)
      = s.read m 0 Units.fits (ix2 r o) + (l.map fun i => if i.m = m then tileTerm x (![gb, ub] i.m) (![ga, ua] i.m) i.q i.t r o else 0).sum
  | [], s, _ => by simp
  | i :: l, s, h => by
    have hi : Units.Idle (tileSt x (View.canon (scalePieces ga ua)) (View.canon (wordPieces gb ub)) s i) := Units.idle_step h _ _ _ _
    rw [List.foldl_cons, read_tiles m r o l _ hi, read_tileSt x gb ub ga ua h, List.map_cons, List.sum_cons, add_assoc]

/-- A sum over the tiles of one operand, in the body's order, is the sum over the planes and the column blocks. -/
theorem sum_tiles (m : Fin 2) (f : Fin 2 → Fin 3 → Fin 16 → EReal) :
    (tiles.map fun i => if i.m = m then f i.m i.q i.t else 0).sum = ∑ q : Fin 3, ∑ t : Fin 16, f m q t := by
  have plane : ∀ q, ((planeTiles q).map fun i => if i.m = m then f i.m i.q i.t else 0).sum = ∑ t : Fin 16, f m q t := by
    intro q
    have e : planeTiles q = (List.finRange 16).flatMap fun t => [⟨0, q, t⟩, ⟨1, q, t⟩] := rfl
    have e2 : ∀ l : List (Fin 16), ((l.flatMap fun t => [(⟨0, q, t⟩ : Tile), ⟨1, q, t⟩]).map fun i => if i.m = m then f i.m i.q i.t else 0).sum
        = (l.map fun t => f m q t).sum := by
      intro l
      induction l with
      | nil => rfl
      | cons t l ih =>
        rw [List.flatMap_cons, List.map_append, List.sum_append, ih, List.map_cons, List.sum_cons]
        congr 1
        have : m = 0 ∨ m = 1 := by omega
        rcases this with rfl | rfl <;> simp
    rw [e, e2, ← List.ofFn_eq_map, List.sum_ofFn]
  unfold tiles
  rw [List.map_append, List.map_append, List.sum_append, List.sum_append, plane, plane, plane, Fin.sum_univ_three, add_assoc]

/-- One accumulator at the end. -/
def accOf (x : Vec Ideal S16x4096 .bf16) (b : Vec Ideal S3x256x512 .i8) (a : Vec Ideal S3x256x32 .bf16) (r : Fin 16) (o : Fin 256) : EReal :=
  ∑ q : Fin 3, ∑ t : Fin 16, tileTerm x b a q t r o

/-- A unit's accumulator after all tiles. -/
theorem read_end (m : Fin 2) (r : Fin 16) (o : Fin 256) :
    (endSt x gb ga ub ua).read m 0 Units.fits (ix2 r o) = accOf x (![gb, ub] m) (![ga, ua] m) r o := by
  unfold endSt
  rw [read_tiles x gb ub ga ua m r o tiles _ Units.idle_init, sum_tiles m (fun m q t => tileTerm x (![gb, ub] m) (![ga, ua] m) q t r o)]
  rw [Mxu.read_init]
  show Ideal.ofBits .f32 0x00000000#32 + _ = _
  rw [Ideal.ofBits_zero_f32, zero_add]; rfl

/-- The gated product of two accumulators. -/
def gated (g u : EReal) : EReal := g * ((-1/4 : ℝ) : EReal) * Ideal.logistic (g * ((-1/4 : ℝ) : EReal)) * (u * ((-1/4 : ℝ) : EReal))

/-- The block, element by element. -/
theorem blockOf_apply (r : Fin 10) (o : Fin 256) :
    blockOf x gb ga ub ua (ix2 r o) = gated (accOf x gb ga ⟨r.val, by omega⟩ o) (accOf x ub ua ⟨r.val, by omega⟩ o) := by
  have e : blockOf x gb ga ub ua = blockSt (endSt x gb ga ub ua) :=
    View.canon_cons_unit_lit _ _ _ (by decide)
  rw [e]
  unfold blockSt
  rw [outOf_apply]
  rw [Mxu.read_pop_ne (hne := .inl (by decide)), read_end x gb ub ga ua 0, read_end x gb ub ga ua 1]
  rfl

end Cert.Proof.KernelIdeal

end
-- ==== Proof.IdealValue.lean ====
/-
  The result array of the kernel over the extended reals, as one function of the five arguments.
-/
module

public import proofs.«01_k».proof.Proof.IdealBlock
public import proofs.«01_k».proof.Proof.IdealRun
public import Idealize.ShloMosaic.Lib.Pipeline.ValueKit.Geometry
public import Idealize.ShloMosaic.Lib.Pipeline.Value
public import Idealize.ShloMosaic.Lib.Claim

@[expose] public section

set_option maxRecDepth 16384

noncomputable section

namespace Cert.Proof.KernelIdeal

open Cert.KernelIdeal Cert.KernelIdeal.Gen Cert.Proof.Tiles
open Idealize.ShloMosaic Idealize.SL.Sem
open Idealize.ShloMosaic.Pipeline (Dat)

/-- One projection at a row and a column, before its scale: over the planes, the column blocks and the columns of a block. -/
def projOf (x : FVec Ideal S10x1x4096 .bf16) (b : IVec S3x12288x512 8) (a : FVec Ideal S3x12288x32 .bf16) (r : Fin 10) (o : Fin 12288) : EReal :=
  ∑ q : Fin 3, ∑ t : Fin 16, ∑ p : Fin 256, x (ix3 r 0 (chan t p)) * (nib (bitAt b q o (chan t p)) * scaleAt a q o (chan t p))

/-- The result as rows and columns. -/
def gatedAll (x : FVec Ideal S10x1x4096 .bf16) (wg : IVec S3x12288x512 8) (ag : FVec Ideal S3x12288x32 .bf16) (wu : IVec S3x12288x512 8)
    (au : FVec Ideal S3x12288x32 .bf16) : FVec Ideal S10x12288 .bf16 :=
  fun i => gated (projOf x wg ag (i 0) (i 1)) (projOf x wu au (i 0) (i 1))

variable (m : (ℓ : Loc nD τ sig) → Buf (Elt Ideal) ℓ) (ρ : Dev nD → PrngReg)

/-- The block that each window is at, at a grid point. -/
theorem index0 : ∀ t : Fin cfg0.N, win0_0.index t = ![0, 0] := by decide +kernel
theorem index1 : ∀ t : Fin cfg0.N, win0_1.index t = ![0, t.val, 0] := by decide +kernel
theorem index2 : ∀ t : Fin cfg0.N, win0_2.index t = ![0, t.val, 0] := by decide +kernel
theorem index3 : ∀ t : Fin cfg0.N, win0_3.index t = ![0, t.val, 0] := by decide +kernel
theorem index4 : ∀ t : Fin cfg0.N, win0_4.index t = ![0, t.val, 0] := by decide +kernel
theorem index5 : ∀ t : Fin cfg0.N, win0_5.index t = ![0, t.val] := by decide +kernel

/-- There are 48 grid points. -/
theorem pt_lt (t : Fin cfg0.N) : t.val < 48 := by have := t.isLt; have h : cfg0.N = 48 := N_0; omega

/-- The padding below a row of the argument leaves the row. -/
theorem left_pad (y : FVec Ideal S10x4096 .bf16) (z : FVec Ideal S_ .bf16) (r : Fin 10) (k : Fin 4096) :
    pad S16x4096 ![0, 0] ![6, 0] ![0, 0] y z pads_S10x4096_S16x4096_060_000 h_S_ (ix2 ⟨r.val, by omega⟩ k) = y (ix2 r k) := by
  pointwise

/-- The rows of the permuted operand read through their splitting. -/
theorem left_rows (y : FVec Ideal S10x16x4x64 .bf16) (r : Fin 10) (t : Fin 16) (p : Fin 256) :
    shapeCast S10x4096 y shapeCasts_S10x16x4x64_S10x4096 (ix2 r ⟨256 * t.val + p.val, by omega⟩)
      = y (ix4 r t ⟨p.val / 64, by omega⟩ ⟨p.val % 64, by omega⟩) := by
  have h : ∀ k : Fin 4096, shapeCast S10x4096 y shapeCasts_S10x16x4x64_S10x4096 (ix2 r k)
      = y (ix4 r ⟨k.val / 256, by omega⟩ ⟨k.val / 64 % 4, by omega⟩ ⟨k.val % 64, by omega⟩) := by
    intro k; pointwise
  rw [h]
  congr 1
  congr 1 <;> exact Fin.ext (by dsimp only; omega)

/-- The exchange of the last two axes, read at an index. -/
theorem left_swap (y : FVec Ideal S10x16x64x4 .bf16) (r : Fin 10) (t : Fin 16) (k : Fin 4) (n : Fin 64) :
    transpose S10x16x4x64 [0, 1, 3, 2] y transposes_S10x16x64x4_S10x16x4x64_0_1_3_2 (ix4 r t k n) = y (ix4 r t n k) := by
  pointwise

/-- The splitting of the channels, read at an index. -/
theorem left_split (y : FVec Ideal S10x1x4096 .bf16) (r : Fin 10) (t : Fin 16) (p : Fin 256) :
    shapeCast S10x16x64x4 y shapeCasts_S10x1x4096_S10x16x64x4 (ix4 r t ⟨p.val % 64, by omega⟩ ⟨p.val / 64, by omega⟩) = y (ix3 r 0 (chan t p)) := by
  have h : ∀ (k : Fin 4) (n : Fin 64), shapeCast S10x16x64x4 y shapeCasts_S10x1x4096_S10x16x64x4 (ix4 r t n k)
      = y (ix3 r 0 ⟨t.val * 256 + n.val * 4 + k.val, by omega⟩) := by
    intro k n; pointwise
  rw [h]
  congr 2
  exact Fin.ext (by show t.val * 256 + p.val % 64 * 4 + p.val / 64 = 256 * t.val + 4 * (p.val % 64) + p.val / 64; omega)

/-- The padded left operand, at a row of the argument. -/
theorem left_apply (c : Dev nD) (r : Fin 16) (hr : r.val < 10) (t : Fin 16) (p : Fin 256) :
    (V m c main_v3 : FVec Ideal S16x4096 .bf16) (ix2 r ⟨256 * t.val + p.val, by omega⟩)
      = (m ((c.tc : Thread nD τ).loc main_arg0) : FVec Ideal S10x1x4096 .bf16) (ix3 ⟨r.val, hr⟩ 0 (chan t p)) := by
  have e : (V m c main_v3 : FVec Ideal S16x4096 .bf16) = pad S16x4096 ![0, 0] ![6, 0] ![0, 0]
      (shapeCast S10x4096 (transpose S10x16x4x64 [0, 1, 3, 2] (shapeCast S10x16x64x4 (m ((c.tc : Thread nD τ).loc main_arg0)) shapeCasts_S10x1x4096_S10x16x64x4 : FVec Ideal S10x16x64x4 .bf16)
        transposes_S10x16x64x4_S10x16x4x64_0_1_3_2 : FVec Ideal S10x16x4x64 .bf16) shapeCasts_S10x16x4x64_S10x4096 : FVec Ideal S10x4096 .bf16)
      (sitofp .bf16 (constantI S_ 32 0#32) : FVec Ideal S_ .bf16) pads_S10x4096_S16x4096_060_000 h_S_ := by
    show StableHlo.after (hostOps0 ++ (hostOps0_1 ++ [])) (fun b => m (c, b)) (Proc.tc.devRef main_v3) = _
    simp only [List.cons_append, List.nil_append, List.append_nil]
    entry_read
    rfl
  rw [e]
  refine (left_pad _ _ ⟨r.val, hr⟩ _).trans ?_
  refine (left_rows _ ⟨r.val, hr⟩ t p).trans ?_
  refine (left_swap _ ⟨r.val, hr⟩ t _ _).trans ?_
  exact left_split _ ⟨r.val, hr⟩ t p

/-- The left operand of a grid point is the padded argument. -/
theorem iblk0_apply (c : Dev nD) (t : Fin cfg0.N) (r : Fin 16) (k : Fin 4096) :
    (iblk m c 0 t : FVec Ideal S16x4096 .bf16) (ix2 r k) = (V m c main_v3 : FVec Ideal S16x4096 .bf16) (ix2 r k) := by
  unfold iblk
  blk_simp
  refine congrArg (V m c main_v3) (funext fun a => Fin.ext ?_)
  match a with
  | ⟨0, _⟩ => blk_simp; rw [index0]; simp
  | ⟨1, _⟩ => blk_simp; rw [index0]; simp

/-- The gate's bytes at a grid point. -/
theorem iblk1_apply (c : Dev nD) (t : Fin cfg0.N) (q : Fin 3) (o : Fin 256) (k : Fin 512) :
    (iblk m c 1 t : IVec S3x256x512 8) (ix3 q o k)
      = (m ((c.tc : Thread nD τ).loc main_arg1) : IVec S3x12288x512 8) (ix3 q ⟨256 * t.val + o.val, by have := pt_lt t; omega⟩ k) := by
  rw [← V_main_arg1 m c]
  unfold iblk
  blk_simp
  refine congrArg (V m c main_arg1) (funext fun a => Fin.ext ?_)
  match a with
  | ⟨0, _⟩ => blk_simp; rw [index1]; simp
  | ⟨1, _⟩ => blk_simp; rw [index1]; simp; omega
  | ⟨2, _⟩ => blk_simp; rw [index1]; simp

/-- The accumulated sum of a block is the projection at its place in the array. -/
theorem block_proj (c : Dev nD) (t : Fin cfg0.N) (r : Fin 10) (o : Fin 256) (b : IVec S3x256x512 8) (a : FVec Ideal S3x256x32 .bf16)
    (bb : IVec S3x12288x512 8) (aa : FVec Ideal S3x12288x32 .bf16) (oo : Fin 12288)
    (hb : ∀ q k, b (ix3 q o k) = bb (ix3 q oo k)) (ha : ∀ q k, a (ix3 q o k) = aa (ix3 q oo k)) :
    accOf (iblk m c 0 t) b a ⟨r.val, by omega⟩ o = projOf (m ((c.tc : Thread nD τ).loc main_arg0)) bb aa r oo := by
  unfold accOf projOf tileTerm
  refine Finset.sum_congr rfl fun q _ => Finset.sum_congr rfl fun s _ => Finset.sum_congr rfl fun p _ => ?_
  rw [iblk0_apply, left_apply m c _ r.isLt]
  unfold bitAt scaleAt
  rw [hb, ha]

/-- The gate's scales at a grid point. -/
theorem iblk2_apply (c : Dev nD) (t : Fin cfg0.N) (q : Fin 3) (o : Fin 256) (k : Fin 32) :
    (iblk m c 2 t : FVec Ideal S3x256x32 .bf16) (ix3 q o k)
      = (m ((c.tc : Thread nD τ).loc main_arg2) : FVec Ideal S3x12288x32 .bf16) (ix3 q ⟨256 * t.val + o.val, by have := pt_lt t; omega⟩ k) := by
  rw [← V_main_arg2 m c]
  unfold iblk
  blk_simp
  refine congrArg (V m c main_arg2) (funext fun a => Fin.ext ?_)
  match a with
  | ⟨0, _⟩ => blk_simp; rw [index2]; simp
  | ⟨1, _⟩ => blk_simp; rw [index2]; simp; omega
  | ⟨2, _⟩ => blk_simp; rw [index2]; simp

/-- The second operand's bytes at a grid point. -/
theorem iblk3_apply (c : Dev nD) (t : Fin cfg0.N) (q : Fin 3) (o : Fin 256) (k : Fin 512) :
    (iblk m c 3 t : IVec S3x256x512 8) (ix3 q o k)
      = (m ((c.tc : Thread nD τ).loc main_arg3) : IVec S3x12288x512 8) (ix3 q ⟨256 * t.val + o.val, by have := pt_lt t; omega⟩ k) := by
  rw [← V_main_arg3 m c]
  unfold iblk
  blk_simp
  refine congrArg (V m c main_arg3) (funext fun a => Fin.ext ?_)
  match a with
  | ⟨0, _⟩ => blk_simp; rw [index3]; simp
  | ⟨1, _⟩ => blk_simp; rw [index3]; simp; omega
  | ⟨2, _⟩ => blk_simp; rw [index3]; simp

/-- The second operand's scales at a grid point. -/
theorem iblk4_apply (c : Dev nD) (t : Fin cfg0.N) (q : Fin 3) (o : Fin 256) (k : Fin 32) :
    (iblk m c 4 t : FVec Ideal S3x256x32 .bf16) (ix3 q o k)
      = (m ((c.tc : Thread nD τ).loc main_arg4) : FVec Ideal S3x12288x32 .bf16) (ix3 q ⟨256 * t.val + o.val, by have := pt_lt t; omega⟩ k) := by
  rw [← V_main_arg4 m c]
  unfold iblk
  blk_simp
  refine congrArg (V m c main_arg4) (funext fun a => Fin.ext ?_)
  match a with
  | ⟨0, _⟩ => blk_simp; rw [index4]; simp
  | ⟨1, _⟩ => blk_simp; rw [index4]; simp; omega
  | ⟨2, _⟩ => blk_simp; rw [index4]; simp

/-- The result array of the region, of the arguments on core `c`. -/
def rows (c : Dev nD) : FVec Ideal S10x12288 .bf16 :=
  gatedAll (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- The block a grid point writes is its place in the result array. -/
theorem outBlk_apply (c : Dev nD) (t : Fin cfg0.N) (r : Fin 10) (o : Fin 256) :
    (outBlk m c t : FVec Ideal S10x256 .bf16) (ix2 r o) = rows m c (ix2 r ⟨256 * t.val + o.val, by have := pt_lt t; omega⟩) := by
  unfold outBlk
  rw [blockOf_apply]
  rw [block_proj m c t r o _ _ _ _ _ (fun q k => iblk1_apply m c t q o k) (fun q k => iblk2_apply m c t q o k),
    block_proj m c t r o _ _ _ _ _ (fun q k => iblk3_apply m c t q o k) (fun q k => iblk4_apply m c t q o k)]
  rfl

/-- The result array of the region after the last grid point. -/
theorem final_rows (c : Dev nD) : (dats m 0 c).arrAt 5 cfg0.N = rows m c := by
  refine (dats m 0 c).arrAt_eq_of_covers 5 _ (by decide +kernel) fun t hf y => ?_
  blk_simp
  rw [after0_5]
  have h := outBlk_apply m c t (y 0) (y 1)
  rw [← eq_ix2 y] at h
  refine h.trans (congrArg (rows m c) (funext fun a => Fin.ext ?_))
  match a with
  | ⟨0, _⟩ => blk_simp; rw [index5]; simp
  | ⟨1, _⟩ => blk_simp; rw [index5]; simp; omega

/-- The program's result: those rows, reshaped. -/
def result (c : Dev nD) : FVec Ideal S10x1x12288 .bf16 := shapeCast S10x1x12288 (rows m c) shapeCasts_S10x12288_S10x1x12288

/-- The reshape after the region gives the result. -/
theorem tail_result (c : Dev nD) : Pipeline.afterTail₀ cfgs (dats m) 0 (V0 m) [hostOps1] c main_v5 = result m c := by
  have hw : Pipeline.withArrays (cfgs (0 : Fin 1)).spec c (V0 m c) (fun w => (dats m 0 c).arrAt w (cfgs (0 : Fin 1)).N) (Proc.devRef .tc main_v4) = rows m c :=
    (Pipeline.withArrays_arr (cfgs (0 : Fin 1)).spec (by decide) c _ _ 5).trans (final_rows m c)
  unfold Pipeline.afterTail₀ result
  rw [← hw]
  rfl

/-- The run: the result array, and the arguments unchanged. -/
theorem run : θ_run defs (onTc (τ := τ) (main (F := Ideal))) ⟨m, fun _ => 0, ρ⟩ (fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.2 c).2 main_v5 (by decide)).trans (tail_result m c), h.1 c⟩)
    (θ_run_and (unchanged m ρ) (run_main m ρ))

end Cert.Proof.KernelIdeal

end
-- ==== Proof.RefDefs.lean ====
/-
  The reference's result as one function of its five arguments.
-/
module

public import proofs.«01_k».proof.Proof.Gen.ReferenceIdeal
public import Idealize.ShloMosaic.Lib.StableHlo.RunHlo

@[expose] public section

set_option maxRecDepth 16384

noncomputable section

namespace Cert.Proof.ReferenceIdeal

open Cert.ReferenceIdeal Cert.ReferenceIdeal.Gen
open Idealize.ShloMosaic Idealize.SL.Sem

variable {F : FTy → Type} [FloatOps F]

/-- The scales of the groups repeated over the bytes of each group. -/
def scales (a : FVec F S3x12288x32 .bf16) : FVec F S3x12288x512 .bf16 :=
  shapeCast S3x12288x512 (broadcastInDim S3x12288x32x16 ![0, 1, 2] bcast_S3x12288x32_S3x12288x32x16_0_1_2 a : FVec F S3x12288x32x16 .bf16)
    shapeCasts_S3x12288x32x16_S3x12288x512

/-- The signed scales of bit `j` of every byte. -/
def weights (j : BitVec 32) (w : IVec S3x12288x512 8) (a : FVec F S3x12288x32 .bf16) : FVec F S3x12288x512 .bf16 :=
  have bit : IVec S3x12288x512 32 :=
    andi (Host.shrsi (extui 32 w natLt_8_32) (broadcastInDim S3x12288x512 ![] bcast_S_S3x12288x512 (constantI S_ 32 j)))
      (broadcastInDim S3x12288x512 ![] bcast_S_S3x12288x512 (constantI S_ 32 1#32))
  mulf (select (cmpi .eq bit (broadcastInDim S3x12288x512 ![] bcast_S_S3x12288x512 (constantI S_ 32 1#32)))
      (broadcastInDim S3x12288x512 ![] bcast_S_S3x12288x512 (constant S_ .bf16 0x3F80#16))
      (broadcastInDim S3x12288x512 ![] bcast_S_S3x12288x512 (Host.negf (constant S_ .bf16 0x3F80#16)))) (scales a)

/-- Each bit position is a slice of the split channels. -/
theorem slices (j : Fin 8) : S10x1x512x8.Slices ![0, 0, 0, j.val] S10x1x512x1 := by revert j; decide

/-- The products of channel `j` of every byte with its signed scales. -/
def part (j : Fin 8) (b : BitVec 32) (x : FVec F S10x1x4096 .bf16) (w : IVec S3x12288x512 8) (a : FVec F S3x12288x32 .bf16) :
    FVec F S10x1x3x12288 .f32 :=
  Host.dotGeneral dot_S10x1x512_S3x12288x512_S10x1x3x12288_2_2_01_01_n_n none
    (shapeCast S10x1x512 (extractStridedSlice S10x1x512x1 ![0, 0, 0, j.val] (shapeCast S10x1x512x8 x shapeCasts_S10x1x4096_S10x1x512x8 : FVec F S10x1x512x8 .bf16)
      (slices j) : FVec F S10x1x512x1 .bf16) shapeCasts_S10x1x512x1_S10x1x512) (weights b w a)

/-- One projection: the eight products added, then summed over the planes. -/
def proj (x : FVec F S10x1x4096 .bf16) (w : IVec S3x12288x512 8) (a : FVec F S3x12288x32 .bf16) : FVec F S10x1x12288 .f32 :=
  Host.reduceAdd (addf (addf (addf (addf (addf (addf (addf (part 0 0#32 x w a) (part 1 1#32 x w a)) (part 2 2#32 x w a)) (part 3 3#32 x w a))
      (part 4 4#32 x w a)) (part 5 5#32 x w a)) (part 6 6#32 x w a)) (part 7 7#32 x w a))
    (constant S_ .f32 0x00000000#32) reducesTo_S10x1x3x12288_S10x1x12288_d2 h_S_

/-- The activation. -/
def silu (g : FVec F S10x1x12288 .f32) : FVec F S10x1x12288 .f32 :=
  mulf g (Host.divf (broadcastInDim S10x1x12288 ![] bcast_S_S10x1x12288 (constant S_ .f32 0x3F800000#32))
    (addf (broadcastInDim S10x1x12288 ![] bcast_S_S10x1x12288 (constant S_ .f32 0x3F800000#32)) (Host.exp (Host.negf g))))

/-- The result. -/
def result (x : FVec F S10x1x4096 .bf16) (wg : IVec S3x12288x512 8) (ag : FVec F S3x12288x32 .bf16) (wu : IVec S3x12288x512 8)
    (au : FVec F S3x12288x32 .bf16) : FVec F S10x1x12288 .bf16 :=
  truncf .bf16 (mulf (silu (proj x wg ag)) (proj x wu au)) bitsLt_bf16_f32

end Cert.Proof.ReferenceIdeal

end
-- ==== Proof.RefRun.lean ====
/-
  The reference run: its result as one function of its five arguments, and its frame.
-/
module

public import proofs.«01_k».proof.Proof.RefDefs
public import Idealize.ShloMosaic.Lib.StableHlo.RunHlo
public import Idealize.ShloMosaic.Lib.Claim
public import Idealize.ShloMosaic.Lib.Quiescent

@[expose] public section

set_option maxRecDepth 16384

noncomputable section

namespace Cert.Proof.ReferenceIdeal

open Cert.ReferenceIdeal Cert.ReferenceIdeal.Gen
open Idealize.ShloMosaic Idealize.SL.Sem

variable {F : FTy → Type} [FloatOps F]

variable (m : (ℓ : Loc nD τ sig) → Buf (Elt F) ℓ) (ρ : Dev nD → PrngReg)

set_option maxHeartbeats 0 in
/-- The run: the result, and the arguments unchanged. -/
theorem run : θ_run defs (onTc (τ := τ) (main (F := F))) ⟨m, fun _ => 0, ρ⟩ (fun r => ∀ c : Dev nD,
      r.2.mem ((c.tc : Thread nD τ).loc main_v231) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
by
  hlo_run
  rfl

/-- The frame: the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, sem_eq_zero_of_no_sems (by decide) r.2⟩) (run m ρ)

end Cert.Proof.ReferenceIdeal

end
-- ==== Proof.Finite.lean ====
/-
  The precondition read: every element of the activations and of both arrays of scales is a real number.
-/
module

public import proofs.«01_k».proof.Proof.Gen.Pre_finite
public import Idealize.ShloMosaic.Lib.ReduceAll
public import Idealize.ShloMosaic.Lib.IdealHost

@[expose] public section

noncomputable section

namespace Cert.Proof.Finite

open Cert.Pre_finite Cert.Pre_finite.Gen
open Idealize.ShloMosaic

/-- The bf16 pattern of infinity. -/
theorem ofBits_inf : Ideal.ofBits .bf16 0x7F80#16 = ⊤ := by simp [Ideal.ofBits, Ideal.ieee]

/-- A value whose absolute value is below infinity is a real number. -/
theorem real_of_abs_lt (x : EReal) (h : Ideal.cmp .olt (max x (-x)) (Ideal.ofBits .bf16 0x7F80#16) = 1#1) : ∃ y : ℝ, x = y := by
  rw [ofBits_inf] at h
  have h' : max x (-x) < ⊤ := by
    by_contra hc
    simp [Ideal.cmp, hc] at h
  induction x using EReal.rec with
  | bot => simp at h'
  | top => simp at h'
  | coe y => exact ⟨y, rfl⟩

/-- Where the precondition holds every element of the three float arguments is a real number. -/
theorem real_of_fn (x : FVec Ideal S10x1x4096 .bf16) (wg : IVec S3x12288x512 8) (ag : FVec Ideal S3x12288x32 .bf16) (wu : IVec S3x12288x512 8)
    (au : FVec Ideal S3x12288x32 .bf16) (h : fn (F := Ideal) x wg ag wu au = fun _ => 1#1) :
    (∀ i, ∃ y : ℝ, x i = y) ∧ (∀ i, ∃ y : ℝ, ag i = y) ∧ (∀ i, ∃ y : ℝ, au i = y) := by
  have h0 := congrFun h (Shape.Idx.first h_S_)
  obtain ⟨h1, h2⟩ := IntOp.andi_eq_one.1 h0
  obtain ⟨h3, h4⟩ := IntOp.andi_eq_one.1 h1
  exact ⟨fun i => real_of_abs_lt _ (Host.reduce_andi_all _ _ _ _ _ h3 i), fun i => real_of_abs_lt _ (Host.reduce_andi_all _ _ _ _ _ h4 i),
    fun i => real_of_abs_lt _ (Host.reduce_andi_all _ _ _ _ _ h2 i)⟩

end Cert.Proof.Finite

end
-- ==== Proof.RefValue.lean ====
/-
  The reference over the extended reals, read at an index.
-/
module

public import proofs.«01_k».proof.Proof.RefDefs
public import Idealize.ShloMosaic.Lib.Pointwise
public import Idealize.ShloMosaic.Lib.IdealHost

@[expose] public section

set_option maxRecDepth 16384

noncomputable section

namespace Cert.Proof.ReferenceIdeal

open Cert.ReferenceIdeal Cert.ReferenceIdeal.Gen
open Idealize.ShloMosaic Idealize.SL.Sem

/-- A byte's scale is its group's. -/
theorem scales_apply (a : FVec Ideal S3x12288x32 .bf16) (q : Fin 3) (o : Fin 12288) (k : Fin 512) :
    scales a (ix3 q o k) = a (ix3 q o ⟨k.val / 16, by omega⟩) := by
  pointwise [scales]

/-- One for a set bit, minus one for a clear one. -/
def sgn (b : Bool) : EReal := if b then 1 else -1

/-- A byte shifted and masked gives its bit. -/
theorem bit_eq (j : Fin 8) (w : BitVec 8) :
    IntOp.cmpi .eq (IntOp.andi (IntOp.shrsi .host (w.setWidth 32) (BitVec.ofNat 32 j.val)) 1#32) 1#32 = BitVec.ofBool (w.getLsbD j.val) := by
  revert j w; decide +kernel

/-- The signed scale of a bit of a byte. -/
theorem weights_apply (j : Fin 8) (w : IVec S3x12288x512 8) (a : FVec Ideal S3x12288x32 .bf16) (q : Fin 3) (o : Fin 12288) (k : Fin 512) :
    weights (BitVec.ofNat 32 j.val) w a (ix3 q o k) = sgn ((w (ix3 q o k)).getLsbD j.val) * a (ix3 q o ⟨k.val / 16, by omega⟩) := by
  rw [← scales_apply a q o k]
  have hb := bit_eq j (w (ix3 q o k))
  have h : weights (BitVec.ofNat 32 j.val) w a (ix3 q o k)
      = (if IntOp.cmpi .eq (IntOp.andi (IntOp.shrsi .host ((w (ix3 q o k)).setWidth 32) (BitVec.ofNat 32 j.val)) 1#32) 1#32 = 1#1
          then Ideal.ofBits .bf16 0x3F80#16 else -(Ideal.ofBits .bf16 0x3F80#16)) * scales a (ix3 q o k) := rfl
  rw [h, hb, Ideal.ofBits_one_bf16]
  cases (w (ix3 q o k)).getLsbD j.val <;> rfl

/-- The channels of one bit position. -/
theorem chan_apply (j : Fin 8) (x : FVec Ideal S10x1x4096 .bf16) (r : Fin 10) (k : Fin 512) :
    (shapeCast S10x1x512 (extractStridedSlice S10x1x512x1 ![0, 0, 0, j.val] (shapeCast S10x1x512x8 x shapeCasts_S10x1x4096_S10x1x512x8 : FVec Ideal S10x1x512x8 .bf16)
      (slices j) : FVec Ideal S10x1x512x1 .bf16) shapeCasts_S10x1x512x1_S10x1x512) (ix3 r 0 k) = x (ix3 r 0 ⟨k.val * 8 + j.val, by omega⟩) := by
  pointwise

/-- The product of one bit position as a sum over the bytes. -/
theorem dot_apply (x : FVec Ideal S10x1x512 .bf16) (y : FVec Ideal S3x12288x512 .bf16) (r : Fin 10) (q : Fin 3) (o : Fin 12288) :
    (Host.dotGeneral dot_S10x1x512_S3x12288x512_S10x1x3x12288_2_2_01_01_n_n none x y : FVec Ideal S10x1x3x12288 .f32) (ix4 r 0 q o)
      = ∑ k : Fin 512, x (ix3 r 0 k) * y (ix3 q o k) := by
  pointwise

/-- One part as a sum over the bytes. -/
theorem part_apply (j : Fin 8) (x : FVec Ideal S10x1x4096 .bf16) (w : IVec S3x12288x512 8) (a : FVec Ideal S3x12288x32 .bf16) (r : Fin 10) (q : Fin 3) (o : Fin 12288) :
    part j (BitVec.ofNat 32 j.val) x w a (ix4 r 0 q o)
      = ∑ k : Fin 512, x (ix3 r 0 ⟨k.val * 8 + j.val, by omega⟩) * (sgn ((w (ix3 q o k)).getLsbD j.val) * a (ix3 q o ⟨k.val / 16, by omega⟩)) := by
  unfold part
  rw [dot_apply]
  exact Finset.sum_congr rfl fun k _ => by rw [chan_apply, weights_apply]

/-- The sum over the planes. -/
theorem planes_apply (y : FVec Ideal S10x1x3x12288 .f32) (r : Fin 10) (o : Fin 12288) :
    Host.reduceAdd y (constant S_ .f32 0x00000000#32) reducesTo_S10x1x3x12288_S10x1x12288_d2 h_S_ (ix3 r 0 o) = ∑ q : Fin 3, y (ix4 r 0 q o) := by
  pointwise

/-- One projection at a row and a column. -/
theorem proj_apply (x : FVec Ideal S10x1x4096 .bf16) (w : IVec S3x12288x512 8) (a : FVec Ideal S3x12288x32 .bf16) (r : Fin 10) (o : Fin 12288) :
    proj x w a (ix3 r 0 o) = ∑ q : Fin 3, ∑ j : Fin 8, ∑ k : Fin 512,
      x (ix3 r 0 ⟨k.val * 8 + j.val, by omega⟩) * (sgn ((w (ix3 q o k)).getLsbD j.val) * a (ix3 q o ⟨k.val / 16, by omega⟩)) := by
  unfold proj
  rw [planes_apply]
  refine Finset.sum_congr rfl fun q _ => ?_
  have h := fun j => part_apply j x w a r q o
  rw [Fin.sum_univ_eight, ← h 0, ← h 1, ← h 2, ← h 3, ← h 4, ← h 5, ← h 6, ← h 7]
  rfl

/-- The activation is its argument times its logistic. -/
theorem silu_apply (g : FVec Ideal S10x1x12288 .f32) (i : S10x1x12288.Idx) : silu g i = (g i : EReal) * Ideal.logistic (g i) := by
  unfold silu
  have h1 : Ideal.ofBits .f32 0x3F800000#32 = 1 := Ideal.ofBits_one_f32
  show (g i : EReal) * Ideal.div (Ideal.ofBits .f32 0x3F800000#32) (Ideal.ofBits .f32 0x3F800000#32 + Ideal.exp (-(g i))) = _
  rw [h1]; rfl

/-- The result at an index. -/
theorem result_apply (x : FVec Ideal S10x1x4096 .bf16) (wg : IVec S3x12288x512 8) (ag : FVec Ideal S3x12288x32 .bf16) (wu : IVec S3x12288x512 8)
    (au : FVec Ideal S3x12288x32 .bf16) (i : S10x1x12288.Idx) :
    result x wg ag wu au i = (proj x wg ag i : EReal) * Ideal.logistic (proj x wg ag i) * proj x wu au i := by
  show (silu (proj x wg ag) i : EReal) * proj x wu au i = _
  rw [silu_apply]

end Cert.Proof.ReferenceIdeal

end
-- ==== Proof.Agree.lean ====
/-
  The kernel's result is the reference's, on real activations and scales.
-/
module

public import proofs.«01_k».proof.Proof.IdealValue
public import proofs.«01_k».proof.Proof.RefValue

@[expose] public section

set_option maxRecDepth 16384

noncomputable section

namespace Cert.Proof.Agree

open Cert.Proof.KernelIdeal (bitAt scaleAt chan nib projOf gated gatedAll)
open Cert.Proof.ReferenceIdeal (sgn)
open Idealize.ShloMosaic

/-- A finite sum of reals, read as an extended real, is the sum of the extended reals. -/
theorem coe_sum {ι : Type} [Fintype ι] (f : ι → ℝ) : ((∑ i, f i : ℝ) : EReal) = ∑ i, (f i : EReal) := by
  classical
  induction (Finset.univ : Finset ι) using Finset.induction_on with
  | empty => simp
  | insert i s hi ih => rw [Finset.sum_insert hi, Finset.sum_insert hi, EReal.coe_add, ih]

/-- The columns of all blocks are the channels, each once. -/
theorem sum_chan {α : Type} [AddCommMonoid α] (G : Fin 4096 → α) : ∑ t : Fin 16, ∑ p : Fin 256, G (chan t p) = ∑ c, G c := by
  rw [← Fintype.sum_prod_type' fun t p => G (chan t p)]
  refine Fintype.sum_bijective (fun i : Fin 16 × Fin 256 => chan i.1 i.2) ?_ _ _ fun _ => rfl
  refine (Fintype.bijective_iff_injective_and_card _).2 ⟨?_, by simp⟩
  rintro ⟨t, p⟩ ⟨t', p'⟩ h
  have h' : 256 * t.val + 4 * (p.val % 64) + p.val / 64 = 256 * t'.val + 4 * (p'.val % 64) + p'.val / 64 := congrArg Fin.val h
  exact Prod.ext (Fin.ext (by show t.val = t'.val; omega)) (Fin.ext (by show p.val = p'.val; omega))

/-- The bits of all bytes are the channels, each once. -/
theorem sum_bits {α : Type} [AddCommMonoid α] (G : Fin 4096 → α) : ∑ j : Fin 8, ∑ k : Fin 512, G ⟨k.val * 8 + j.val, by omega⟩ = ∑ c, G c := by
  rw [← Fintype.sum_prod_type' fun (j : Fin 8) (k : Fin 512) => G ⟨k.val * 8 + j.val, by omega⟩]
  refine Fintype.sum_bijective (fun i : Fin 8 × Fin 512 => (⟨i.2.val * 8 + i.1.val, by omega⟩ : Fin 4096)) ?_ _ _ fun _ => rfl
  refine (Fintype.bijective_iff_injective_and_card _).2 ⟨?_, by simp⟩
  rintro ⟨j, k⟩ ⟨j', k'⟩ h
  have h' : k.val * 8 + j.val = k'.val * 8 + j'.val := congrArg Fin.val h
  exact Prod.ext (Fin.ext (by show j.val = j'.val; omega)) (Fin.ext (by show k.val = k'.val; omega))

variable (x : FVec Ideal Cert.KernelIdeal.S10x1x4096 .bf16) (w : IVec Cert.KernelIdeal.S3x12288x512 8) (a : FVec Ideal Cert.KernelIdeal.S3x12288x32 .bf16)

/-- The reference's projection as a sum over planes and channels. -/
theorem ref_sum (r : Fin 10) (o : Fin 12288) : Cert.Proof.ReferenceIdeal.proj x w a (ix3 r 0 o)
    = ∑ q : Fin 3, ∑ c : Fin 4096, x (ix3 r 0 c) * (sgn (bitAt w q o c) * scaleAt a q o c) := by
  rw [Cert.Proof.ReferenceIdeal.proj_apply]
  refine Finset.sum_congr rfl fun q _ => ?_
  rw [← sum_bits]
  refine Finset.sum_congr rfl fun j _ => Finset.sum_congr rfl fun k _ => ?_
  have e1 : bitAt w q o ⟨k.val * 8 + j.val, by omega⟩ = (w (ix3 q o k)).getLsbD j.val := by
    have ek : (⟨(k.val * 8 + j.val) / 8, by omega⟩ : Fin 512) = k := Fin.ext (by show (k.val * 8 + j.val) / 8 = k.val; omega)
    have ej : (k.val * 8 + j.val) % 8 = j.val := by omega
    unfold bitAt
    dsimp only
    rw [ek, ej]
  have e2 : scaleAt a q o ⟨k.val * 8 + j.val, by omega⟩ = a (ix3 q o ⟨k.val / 16, by omega⟩) := by
    unfold scaleAt
    refine congrArg a (congrArg (ix3 q o) (Fin.ext ?_))
    show (k.val * 8 + j.val) / 128 = k.val / 16
    omega
  rw [e1, e2]

/-- The kernel's projection, before its scale, as a sum over planes and channels. -/
theorem kernel_sum (r : Fin 10) (o : Fin 12288) : projOf x w a r o
    = ∑ q : Fin 3, ∑ c : Fin 4096, x (ix3 r 0 c) * (nib (bitAt w q o c) * scaleAt a q o c) :=
  Finset.sum_congr rfl fun q _ => sum_chan fun c => x (ix3 r 0 c) * (nib (bitAt w q o c) * scaleAt a q o c)

/-- On real arguments the kernel's projection times minus a quarter is the reference's. -/
theorem proj_eq (hx : ∀ i, ∃ y : ℝ, x i = y) (ha : ∀ i, ∃ y : ℝ, a i = y) (r : Fin 10) (o : Fin 12288) :
    projOf x w a r o * ((-1/4 : ℝ) : EReal) = Cert.Proof.ReferenceIdeal.proj x w a (ix3 r 0 o) := by
  choose X hX using hx
  choose A hA using ha
  have hk : projOf x w a r o = ((∑ q : Fin 3, ∑ c : Fin 4096,
      X (ix3 r 0 c) * (((if bitAt w q o c then -4 else 4 : Int) : ℝ) * A (ix3 q o ⟨c.val / 128, by omega⟩)) : ℝ) : EReal) := by
    rw [kernel_sum, coe_sum]
    refine Finset.sum_congr rfl fun q _ => ?_
    rw [coe_sum]
    refine Finset.sum_congr rfl fun c _ => ?_
    rw [EReal.coe_mul, EReal.coe_mul, ← hX, ← hA]
    rfl
  have hr : Cert.Proof.ReferenceIdeal.proj x w a (ix3 r 0 o) = ((∑ q : Fin 3, ∑ c : Fin 4096,
      X (ix3 r 0 c) * ((if bitAt w q o c then 1 else -1) * A (ix3 q o ⟨c.val / 128, by omega⟩)) : ℝ) : EReal) := by
    rw [ref_sum, coe_sum]
    refine Finset.sum_congr rfl fun q _ => ?_
    rw [coe_sum]
    refine Finset.sum_congr rfl fun c _ => ?_
    rw [EReal.coe_mul, EReal.coe_mul, ← hX, ← hA]
    unfold sgn
    cases bitAt w q o c <;> simp [scaleAt]
  rw [hk, hr, ← EReal.coe_mul]
  refine congrArg _ ?_
  rw [Finset.sum_mul]
  refine Finset.sum_congr rfl fun q _ => ?_
  rw [Finset.sum_mul]
  refine Finset.sum_congr rfl fun c _ => ?_
  cases bitAt w q o c <;> simp <;> ring

/-- The two results. -/
theorem result_eq (wg wu : IVec Cert.KernelIdeal.S3x12288x512 8) (ag au : FVec Ideal Cert.KernelIdeal.S3x12288x32 .bf16)
    (hx : ∀ i, ∃ y : ℝ, x i = y) (hg : ∀ i, ∃ y : ℝ, ag i = y) (hu : ∀ i, ∃ y : ℝ, au i = y) :
    shapeCast Cert.KernelIdeal.S10x1x12288 (gatedAll x wg ag wu au) Cert.KernelIdeal.Gen.shapeCasts_S10x12288_S10x1x12288
      = Cert.Proof.ReferenceIdeal.result x wg ag wu au := by
  funext i
  obtain ⟨r, z, o, rfl⟩ : ∃ (r : Fin 10) (z : Fin 1) (o : Fin 12288), i = ix3 r z o := ⟨i 0, i 1, i 2, eq_ix3 i⟩
  obtain rfl : z = 0 := Subsingleton.elim _ _
  have h : shapeCast Cert.KernelIdeal.S10x1x12288 (gatedAll x wg ag wu au) Cert.KernelIdeal.Gen.shapeCasts_S10x12288_S10x1x12288 (ix3 r 0 o)
      = gatedAll x wg ag wu au (ix2 r o) := by
    generalize gatedAll x wg ag wu au = y
    pointwise
  rw [h, Cert.Proof.ReferenceIdeal.result_apply, ← proj_eq x wg ag hx hg r o, ← proj_eq x wu au hx hu r o]
  rfl

end Cert.Proof.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.BitsRun
public import proofs.«01_k».proof.Proof.IdealRun
public import proofs.«01_k».proof.Proof.IdealValue
public import proofs.«01_k».proof.Proof.RefRun
public import proofs.«01_k».proof.Proof.Finite
public import proofs.«01_k».proof.Proof.Agree
public import Idealize.ShloMosaic.Lib.Bf16Pair
public import Idealize.ShloMosaic.Lib.Bf16PairInverse
public import Idealize.ShloMosaic.Adequacy
public import Idealize.ShloMosaic.Init

@[expose] public section

noncomputable section

namespace Cert.Proof

open Idealize.ShloMosaic Idealize.SL.Sem Cert.Kernel

/-- The rewriting from the kernel to its ideal reading is by the rules named. -/
theorem preserves : Cert.preserves_Kernel_KernelIdeal :=
  ⟨IdealRules.bf16_pair.bufferStatement _ _, IdealRules.bf16_pair.packStatement _, IdealRules.bf16_pair.statement _ _,
    IdealRules.bf16_pair.statement _ _, IdealRules.bf16_pair.statement _ _⟩

/-- On finite activations and scales the kernel and the reference compute one result. -/
theorem algebraic : Cert.algebraic_KernelIdeal_ReferenceIdeal_pre_finite := by
  intro m g m' g' hpre hagree
  refine ⟨fun c => KernelIdeal.result m c, KernelIdeal.run m g, (θ_run Cert.ReferenceIdeal.defs _ _).mono (fun r h c => ⟨(h c).1.trans ?_, (h c).2⟩) (ReferenceIdeal.run m' g')⟩
  obtain ⟨h0, h1, h2, h3, h4⟩ := hagree c
  rw [h0, h1, h2, h3, h4]
  obtain ⟨hx, hg, hu⟩ := Finite.real_of_fn _ _ _ _ _ (hpre c)
  exact (Agree.result_eq _ _ _ _ _ hx hg hu).symm

/-- All claims of the certificate. -/
theorem claim : Cert.Claim := ⟨Cert.Kernel.Gen.facts, Cert.KernelIdeal.Gen.facts, Cert.ReferenceIdeal.Gen.facts, Cert.Pre_finite.Gen.facts, by
  exact ⟨fun m g _ => Kernel.frame m g, fun m g _ => KernelIdeal.frame m g, fun m g _ => KernelIdeal.frame m g, fun m g _ => ReferenceIdeal.frame m g,
    fun m g _ => ReferenceIdeal.frame m g, preserves, algebraic⟩⟩

end Cert.Proof

end
